-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_exact [hPre_sums_exact : Cert.Pre_sums_exact.Facts] (m : (ℓ : Loc Cert.KernelIdeal.nD Cert.KernelIdeal.τ Cert.KernelIdeal.sig) → Buf (Elt Ideal) ℓ) : Prop :=
  ∀ c : Dev Cert.KernelIdeal.nD,
    (Cert.Pre_sums_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_exact [hPre_sums_exact : Cert.Pre_sums_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sums_exact [hKernelIdeal : Cert.KernelIdeal.Facts] [hPre_sums_exact : Cert.Pre_sums_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_exact m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sums_exact [hReferenceIdeal : Cert.ReferenceIdeal.Facts] [hPre_sums_exact : Cert.Pre_sums_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sums_exact [hKernelIdeal : Cert.KernelIdeal.Facts] [hReferenceIdeal : Cert.ReferenceIdeal.Facts] [hPre_sums_exact : Cert.Pre_sums_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sums_exact : Cert.Pre_sums_exact.Facts),
    quiescent_Kernel (hKernel := hKernel)
    ∧ quiescent_KernelIdeal (hKernelIdeal := hKernelIdeal)
    ∧ quiescent_KernelIdeal_pre_sums_exact (hKernelIdeal := hKernelIdeal) (hPre_sums_exact := hPre_sums_exact)
    ∧ quiescent_ReferenceIdeal (hReferenceIdeal := hReferenceIdeal)
    ∧ quiescent_ReferenceIdeal_pre_sums_exact (hReferenceIdeal := hReferenceIdeal) (hPre_sums_exact := hPre_sums_exact)
    ∧ preserves_Kernel_KernelIdeal
    ∧ algebraic_KernelIdeal_ReferenceIdeal_pre_sums_exact (hKernelIdeal := hKernelIdeal) (hReferenceIdeal := hReferenceIdeal) (hPre_sums_exact := hPre_sums_exact)
-- ==== Pre_sums_exact.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000x32 : Shape := ⟨2, ![10000, 32]⟩

class Facts : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S_S10000x10000 : S_.BroadcastsInDim S10000x10000 (![] : Fin 0 → Fin S10000x10000.rank)
  natLt_8_32 : 8 < 32
  reducesTo_S10000x16_S16_d0 : S10000x16.ReducesTo [0] S16
  h_S_ : 0 < S_.numel
  bcast_S_S1x16 : S_.BroadcastsInDim S1x16 (![] : Fin 0 → Fin S1x16.rank)
  concatenates_S10000x16_S10000x16_S10000x32_d1 : Shape.Concatenates [S10000x16, S10000x16] S10000x32 1
  bcast_S_S10000x32 : S_.BroadcastsInDim S10000x32 (![] : Fin 0 → Fin S10000x32.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []
  dot_S10000x10000_S10000x32_S10000x32_1_0_0_1_n_n_wf : DotDims.WF S10000x10000 S10000x32 S10000x32 [1] [0] [0] [1] [] []

variable [Facts]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def fn_round {F : FTy → Type} [FloatOps F] (arg0 : FVec F S10000x16 .f32) : FVec F S10000x16 .f32 :=
  let v0 : FVec F S10000x16 .f32 := Host.roundeven arg0
  v0

def fn_part1 {F : FTy → Type} [FloatOps F] (main_v7 : FVec F S10000x16 .f32) (main_v13 : IVec S10000x10000 8) (main_v18 : FVec F S1x16 .f32) : IVec S10000x32 1 :=
  let main_cst_3 : FVec F S_ .f32 := constant S_ .f32 0x467E0000#32
  let main_v19 : FVec F S1x16 .f32 := broadcastInDim S1x16 ![] bcast_S_S1x16 main_cst_3
  let main_v20 : FVec F S1x16 .f32 := Host.divf main_v19 main_v18
  let main_v21 : FVec F S10000x16 .f32 := broadcastInDim S10000x16 ![0, 1] bcast_S1x16_S10000x16_0_1 main_v20
  let main_v22 : FVec F S10000x16 .f32 := mulf main_v7 main_v21
  let main_v23 : FVec F S10000x16 .f32 := fn_round (F := F) main_v22
  let main_v24 : IVec S10000x10000 32 := (extsi 32 · natLt_8_32) main_v13
  let main_v25 : FVec F S10000x10000 .f32 := sitofp .f32 main_v24
  let main_cst_4 : FVec F S_ .f32 := constant S_ .f32 0x3C000000#32
  let main_v26 : FVec F S10000x16 .f32 := broadcastInDim S10000x16 ![] bcast_S_S10000x16 main_cst_4
  let main_v27 : FVec F S10000x16 .f32 := mulf main_v23 main_v26
  let main_v28 : FVec F S10000x16 .f32 := fn_round (F := F) main_v27
  let main_cst_5 : FVec F S_ .f32 := constant S_ .f32 0x43000000#32
  let main_v29 : FVec F S10000x16 .f32 := broadcastInDim S10000x16 ![] bcast_S_S10000x16 main_cst_5
  let main_v30 : FVec F S10000x16 .f32 := mulf main_v28 main_v29
  let main_v31 : FVec F S10000x16 .f32 := subf main_v23 main_v30
  let main_v32 : FVec F S10000x32 .f32 := (fun a b => concatenate S10000x32 1 [⟨S10000x16, a⟩, ⟨S10000x16, b⟩] concatenates_S10000x16_S10000x16_S10000x32_d1) main_v28 main_v31
  let main_v33 : FVec F S10000x32 .f32 := Host.absf main_v32
  let main_v34 : FVec F S10000x10000 .f32 := Host.absf main_v25
  let main_v35 : FVec F S10000x32 .f32 := (fun l r => Host.dotGeneral dot_S10000x10000_S10000x32_S10000x32_1_0_0_1_n_n none l r) main_v34 main_v33
  let main_cst_6 : FVec F S_ .f32 := constant S_ .f32 0x4C800000#32
  let main_v36 : FVec F S10000x32 .f32 := broadcastInDim S10000x32 ![] bcast_S_S10000x32 main_cst_6
  let main_v37 : IVec S10000x32 1 := cmpf .ole main_v35 main_v36
  main_v37

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S10000x32 1 :=
  let main_v0 : FVec F S10000x16 .f32 := (fun l r => Host.dotGeneral dot_S10000x128_S128x16_S10000x16_1_0_0_1_n_n none l r) main_arg0 main_arg2
  let main_v1 : FVec F S10000x16 .f32 := (fun l r => Host.dotGeneral dot_S10000x10000_S10000x16_S10000x16_1_0_0_1_n_n none l r) main_arg1 main_v0
  let main_v2 : FVec F S1x16 .f32 := broadcastInDim S1x16 ![1] bcast_S16_S1x16_1 main_arg3
  let main_v3 : FVec F S10000x16 .f32 := broadcastInDim S10000x16 ![0, 1] bcast_S1x16_S10000x16_0_1 main_v2
  let main_v4 : FVec F S10000x16 .f32 := addf main_v1 main_v3
  let main_cst : FVec F S_ .f32 := constant S_ .f32 0x00000000#32
  let main_v5 : FVec F S10000x16 .f32 := broadcastInDim S10000x16 ![] bcast_S_S10000x16 main_cst
  let main_v6 : FVec F S10000x16 .f32 := maximumf main_v4 main_v5
  let main_v7 : FVec F S10000x16 .f32 := (fun l r => Host.dotGeneral dot_S10000x16_S16x16_S10000x16_1_0_0_1_n_n none l r) main_v6 main_arg4
  let main_cst_0 : FVec F S_ .f32 := constant S_ .f32 0x437F0000#32
  let main_v8 : FVec F S10000x10000 .f32 := broadcastInDim S10000x10000 ![] bcast_S_S10000x10000 main_cst_0
  let main_v9 : FVec F S10000x10000 .f32 := mulf main_arg1 main_v8
  let main_v10 : IVec S10000x10000 32 := fptosi 32 main_v9
  let main_c : IVec S_ 32 := constantI S_ 32 128#32
  let main_v11 : IVec S10000x10000 32 := broadcastInDim S10000x10000 ![] bcast_S_S10000x10000 main_c
  let main_v12 : IVec S10000x10000 32 := subi main_v10 main_v11
  let main_v13 : IVec S10000x10000 8 := (trunci 8 · natLt_8_32) main_v12
  let main_v14 : FVec F S10000x16 .f32 := Host.absf main_v7
  let main_cst_1 : FVec F S_ .f32 := constant S_ .f32 0xFF800000#32
  let main_v15 : FVec F S16 .f32 := (fun x v => Host.reduce FloatOps.maximumf x v reducesTo_S10000x16_S16_d0 h_S_) main_v14 main_cst_1
  let main_v16 : FVec F S1x16 .f32 := broadcastInDim S1x16 ![1] bcast_S16_S1x16_1 main_v15
  let main_cst_2 : FVec F S_ .f32 := constant S_ .f32 0x0DA24260#32
  let main_v17 : FVec F S1x16 .f32 := broadcastInDim S1x16 ![] bcast_S_S1x16 main_cst_2
  let main_v18 : FVec F S1x16 .f32 := maximumf main_v16 main_v17
  fn_part1 (F := F) main_v7 main_v13 main_v18
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S25x400x10000 : Shape := ⟨3, ![25, 400, 10000]⟩
abbrev S400x10000 : Shape := ⟨2, ![400, 10000]⟩
abbrev S400x16 : Shape := ⟨2, ![400, 16]⟩
abbrev S1x400x10000 : Shape := ⟨3, ![1, 400, 10000]⟩
abbrev S5x400x10000 : Shape := ⟨3, ![5, 400, 10000]⟩
abbrev S2000x16 : Shape := ⟨2, ![2000, 16]⟩
abbrev S10000x32 : Shape := ⟨2, ![10000, 32]⟩
abbrev S2x16 : Shape := ⟨2, ![2, 16]⟩
abbrev S400x32 : Shape := ⟨2, ![400, 32]⟩
abbrev S2000x32 : Shape := ⟨2, ![2000, 32]⟩

abbrev nBuf : Space → Nat
  | .hbm => 11
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .hbm, ⟨9, _⟩ => ⟨S25x400x10000, .i8⟩
  | .hbm, ⟨10, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S1x16, .f32⟩
  | .local _ .vmem, ⟨3, _⟩ => ⟨S16x16, .f32⟩
  | .local _ .vmem, ⟨4, _⟩ => ⟨S400x10000, .f32⟩
  | .local _ .vmem, ⟨5, _⟩ => ⟨S400x10000, .f32⟩
  | .local _ .vmem, ⟨6, _⟩ => ⟨S400x16, .f32⟩
  | .local _ .vmem, ⟨7, _⟩ => ⟨S400x16, .f32⟩
  | .local _ .vmem, ⟨8, _⟩ => ⟨S1x400x10000, .i8⟩
  | .local _ .vmem, ⟨9, _⟩ => ⟨S1x400x10000, .i8⟩
  | .local _ .vmem, ⟨10, _⟩ => ⟨S10000x16, .f32⟩
  | .local _ .vmem, ⟨11, _⟩ => ⟨S5x400x10000, .i8⟩
  | .local _ .vmem, ⟨12, _⟩ => ⟨S5x400x10000, .i8⟩
  | .local _ .vmem, ⟨13, _⟩ => ⟨S10000x16, .f32⟩
  | .local _ .vmem, ⟨14, _⟩ => ⟨S1x16, .f32⟩
  | .local _ .vmem, ⟨15, _⟩ => ⟨S2000x16, .f32⟩
  | .local _ .vmem, ⟨16, _⟩ => ⟨S2000x16, .f32⟩
  | .local _ .vmem, ⟨17, _⟩ => ⟨S10000x32, .i8⟩
  | .local _ .vmem, ⟨18, _⟩ => ⟨S2x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x400x10000 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5x400x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .i32⟩
  | .hbm, ⟨19, _⟩ => ⟨S_, .i32⟩
  | .hbm, ⟨20, _⟩ => ⟨S10000x10000, .i32⟩
  | .hbm, ⟨21, _⟩ => ⟨S10000x10000, .i32⟩
  | .hbm, ⟨22, _⟩ => ⟨S10000x10000, .i8⟩
  | .hbm, ⟨23, _⟩ => ⟨S10000x16, .f32⟩
  | .hbm, ⟨24, _⟩ => ⟨S_, .f32⟩
  | .hbm, ⟨25, _⟩ => ⟨S16, .f32⟩
  | .hbm, ⟨26, _⟩ => ⟨S1x16, .f32⟩
  | .hbm, ⟨27, _⟩ => ⟨S_, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S10000x16, .f32⟩
  | .hbm, ⟨34, _⟩ => ⟨S10000x16, .f32⟩
  | .hbm, ⟨35, _⟩ => ⟨S10000x16, .f32⟩
  | .hbm, ⟨36, _⟩ => ⟨S10000x10000, .i32⟩
  | .hbm, ⟨37, _⟩ => ⟨S10000x10000, .f32⟩
  | .hbm, ⟨38, _⟩ => ⟨S_, .f32⟩
  | .hbm, ⟨39, _⟩ => ⟨S1x16, .f32⟩
  | .hbm, ⟨40, _⟩ => ⟨S1x16, .f32⟩
  | .hbm, ⟨41, _⟩ => ⟨S10000x16, .f32⟩
  | .hbm, ⟨42, _⟩ => ⟨S10000x16, .f32⟩
  | .hbm, ⟨43, _⟩ => ⟨S10000x16, .f32⟩
  | .hbm, ⟨44, _⟩ => ⟨S_, .f32⟩
  | .hbm, ⟨45, _⟩ => ⟨S10000x16, .f32⟩
  | .hbm, ⟨46, _⟩ => ⟨S10000x16, .f32⟩
  | .hbm, ⟨47, _⟩ => ⟨S_, .f32⟩
  | .hbm, ⟨48, _⟩ => ⟨S16, .f32⟩
  | .hbm, ⟨49, _⟩ => ⟨S1x16, .f32⟩
  | .hbm, ⟨50, _⟩ => ⟨S_, .f32⟩
  | .hbm, ⟨51, _⟩ => ⟨S1x16, .f32⟩
  | .hbm, ⟨52, _⟩ => ⟨S1x16, .f32⟩
  | .hbm, ⟨53, _⟩ => ⟨S10000x16, .f32⟩
  | .hbm, ⟨54, _⟩ => ⟨S10000x16, .f32⟩
  | .hbm, ⟨55, _⟩ => ⟨S1x16, .f32⟩
  | .hbm, ⟨56, _⟩ => ⟨S10000x16, .f32⟩
  | .hbm, ⟨57, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v5e

variable {F : FTy → Type} [FloatOps F]
-- ==== Proof.Arith.lean ====
/- The arithmetic of one quantised entry over the extended reals: the 15-bit integer, its two digits in base 128, and their casts to int8. -/
module

public import Idealize.ShloMosaic.PureOps.Ideal.Laws
public import Idealize.ShloMosaic.Lib.IdealHost

@[expose] public section

noncomputable section

namespace Cert.Proof.Arith

open Idealize.ShloMosaic

/-! ### The constants -/

theorem c16256 : Ideal.ofBits .f32 0x467E0000#32 = ((16256 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem cinv128 : Ideal.ofBits .f32 0x3C000000#32 = ((1 / 128 : ℝ) : EReal) := by
  simp [Ideal.ofBits, Ideal.ieee, -EReal.coe_mul]; norm_num
theorem cbound : Ideal.ofBits .f32 0x4C800000#32 = ((67108864 : ℝ) : EReal) := by
  simp [Ideal.ofBits, Ideal.ieee, -EReal.coe_mul]; norm_num
theorem ctiny : 0 < Ideal.ofBits .f32 0x0DA24260#32 := by
  simp only [Ideal.ofBits, Ideal.ieee]
  simp [-EReal.coe_mul]
theorem cstep : ∃ r : ℝ, Ideal.ofBits .f32 0x38810204#32 = (r : EReal) := by
  simp only [Ideal.ofBits, Ideal.ieee]
  simp [-EReal.coe_mul]

/-! ### Rounding half to even -/

theorem rhe_near (r : ℝ) : |(Ideal.roundHalfEven r : ℝ) - r| ≤ 1 / 2 := by
  have h1 := Int.floor_le r
  have h2 := Int.lt_floor_add_one r
  unfold Ideal.roundHalfEven
  simp only
  rw [abs_le]
  split_ifs <;> push_cast <;> constructor <;> linarith

/-- A real within an integer bound rounds to an integer within it. -/
theorem rhe_abs_le (r : ℝ) (N : ℤ) (h : |r| ≤ N) : |Ideal.roundHalfEven r| ≤ N := by
  have hn := abs_le.mp (rhe_near r)
  have hr := abs_le.mp h
  rw [abs_le]
  constructor
  · have : ((-N - 1 : ℤ) : ℝ) < (Ideal.roundHalfEven r : ℝ) := by push_cast; linarith
    have := Int.cast_lt.mp this
    omega
  · have : (Ideal.roundHalfEven r : ℝ) < ((N + 1 : ℤ) : ℝ) := by push_cast; linarith
    have := Int.cast_lt.mp this
    omega

/-! ### The entry -/

/-- The entry as a 15-bit integer: scaled by `16256 / m`, rounded. -/
def q (s m : EReal) : EReal := Ideal.liftRound Ideal.roundHalfEven (s * Ideal.div (Ideal.ofBits .f32 0x467E0000#32) m)
/-- Its high digit in base 128. -/
def hi (s m : EReal) : EReal := Ideal.liftRound Ideal.roundHalfEven (q s m * Ideal.ofBits .f32 0x3C000000#32)
/-- Its low digit. -/
def lo (s m : EReal) : EReal := q s m - hi s m * Ideal.ofBits .f32 0x43000000#32

/-- With the scale positive and no smaller than the entry, the 15-bit integer is one, within 16256; an infinite scale makes it zero. -/
theorem q_int (s m : EReal) (hm : 0 < m) (hs : max s (-s) ≤ m) :
    ∃ n : ℤ, q s m = ((n : ℝ) : EReal) ∧ |n| ≤ 16256 ∧ (m = ⊤ → n = 0) := by
  unfold q
  rw [c16256, Ideal.div, if_neg hm.ne']
  induction m with
  | bot => simp at hm
  | top =>
    refine ⟨0, ?_, by norm_num, fun _ => rfl⟩
    rw [EReal.inv_top, mul_zero, mul_zero, ← EReal.coe_zero, Ideal.liftRound_coe]
    simp [Ideal.roundHalfEven]
  | coe r =>
    have hr : 0 < r := by exact_mod_cast hm
    have h1 : s ≤ r := (le_max_left _ _).trans hs
    have h2 : -s ≤ r := (le_max_right _ _).trans hs
    induction s with
    | bot => simp at h2
    | top => simp at h1
    | coe t =>
      have h1 : t ≤ r := by exact_mod_cast h1
      have h2 : -t ≤ r := by exact_mod_cast h2
      rw [← EReal.coe_inv, ← EReal.coe_mul, ← EReal.coe_mul, Ideal.liftRound_coe]
      refine ⟨_, rfl, rhe_abs_le _ _ ?_, fun h => absurd h (EReal.coe_ne_top _)⟩
      have ht : |t| ≤ r := abs_le.mpr ⟨by linarith, h1⟩
      rw [abs_mul, abs_of_nonneg (by positivity : (0 : ℝ) ≤ 16256 * r⁻¹)]
      calc |t| * (16256 * r⁻¹) ≤ r * (16256 * r⁻¹) := by gcongr
        _ = 16256 := by field_simp
        _ ≤ _ := by norm_num

/-- The two digits: integers that an int8 holds, and the 15-bit integer is their sum in base 128. -/
theorem digits (s m : EReal) (n : ℤ) (hq : q s m = ((n : ℝ) : EReal)) (hn : |n| ≤ 16256) :
    ∃ h l : ℤ, hi s m = ((h : ℝ) : EReal) ∧ lo s m = ((l : ℝ) : EReal) ∧ |h| ≤ 127 ∧ |l| ≤ 64 ∧ n = h * 128 + l := by
  have e : hi s m = ((Ideal.roundHalfEven (n * (1 / 128)) : ℝ) : EReal) := by
    unfold hi; rw [hq, cinv128, ← EReal.coe_mul, Ideal.liftRound_coe]
  have hnear := abs_le.mp (rhe_near (n * (1 / 128)))
  generalize Ideal.roundHalfEven (n * (1 / 128)) = h at e hnear
  refine ⟨h, n - h * 128, e, ?_, ?_, ?_, by ring⟩
  · unfold lo; rw [hq, e, c128, ← EReal.coe_mul, ← EReal.coe_sub]; push_cast; rfl
  · have a1 : ((128 * h : ℤ) : ℝ) ≤ ((n + 64 : ℤ) : ℝ) := by push_cast; linarith
    have a2 : ((n - 64 : ℤ) : ℝ) ≤ ((128 * h : ℤ) : ℝ) := by push_cast; linarith
    have := Int.cast_le.mp a1
    have := Int.cast_le.mp a2
    rw [abs_le] at hn ⊢
    omega
  · have a1 : ((128 * h : ℤ) : ℝ) ≤ ((n + 64 : ℤ) : ℝ) := by push_cast; linarith
    have a2 : ((n - 64 : ℤ) : ℝ) ≤ ((128 * h : ℤ) : ℝ) := by push_cast; linarith
    have := Int.cast_le.mp a1
    have := Int.cast_le.mp a2
    rw [abs_le]
    omega

/-- An integer an int8 holds is cast to int8 exactly. -/
theorem fptosi8 (n : ℤ) (h : |n| ≤ 127) : (Ideal.fptosi 8 ((n : ℝ) : EReal)).toInt = n := by
  rw [abs_le] at h
  unfold Ideal.fptosi
  rw [Ideal.toIntClamped_coe]
  simp only [Int.floor_intCast, Int.ceil_intCast, ite_self]
  rw [BitVec.toInt_ofInt]
  norm_num
  rw [show max (-128) (min 127 n) = n by omega]
  apply Int.bmod_eq_of_le <;> omega

/-! ### A row's sums -/

variable {N : ℕ} (code : Fin N → ℤ) (s : Fin N → EReal) (m : EReal)

theorem coe_sum_real (f : Fin N → ℝ) : ((∑ j, f j : ℝ) : EReal) = ∑ j, (f j : EReal) :=
  map_sum (⟨⟨fun r : ℝ => (r : EReal), EReal.coe_zero⟩, EReal.coe_add⟩ : ℝ →+ EReal) f Finset.univ

/-- The two digits' integer sums, put together in base 128 and scaled back, are the sum over the scaled 15-bit integers. -/
theorem row_eq (c : EReal) (hc : ∃ r : ℝ, c = (r : EReal)) (hm : 0 < m) (hs : ∀ j, max (s j) (-s j) ≤ m) :
    ((((∑ j, code j * (Ideal.fptosi 8 (hi (s j) m)).toInt : ℤ) : ℝ) : EReal) * Ideal.ofBits .f32 0x43000000#32
      + (((∑ j, code j * (Ideal.fptosi 8 (lo (s j) m)).toInt : ℤ) : ℝ) : EReal)) * (m * c)
    = ∑ j, ((code j : ℝ) : EReal) * (q (s j) m * (m * c)) := by
  choose n hq hn hz using fun j => q_int (s j) m hm (hs j)
  choose h l eh el bh bl enl using fun j => digits (s j) m (n j) (hq j) (hn j)
  have t1 : ∀ j, (Ideal.fptosi 8 (hi (s j) m)).toInt = h j := fun j => by rw [eh]; exact fptosi8 _ (bh j)
  have t2 : ∀ j, (Ideal.fptosi 8 (lo (s j) m)).toInt = l j := fun j => by
    rw [el]; exact fptosi8 _ ((bl j).trans (by norm_num))
  simp only [t1, t2, hq]
  rw [c128, ← EReal.coe_mul, ← EReal.coe_add]
  have e : (((∑ j, code j * h j : ℤ) : ℝ) * 128 + ((∑ j, code j * l j : ℤ) : ℝ)) = ∑ j, (code j : ℝ) * (n j : ℝ) := by
    push_cast
    rw [Finset.sum_mul, ← Finset.sum_add_distrib]
    refine Finset.sum_congr rfl fun j _ => ?_
    rw [enl j]; push_cast; ring
  rw [e]
  obtain ⟨r, rfl⟩ := hc
  induction m with
  | bot => simp at hm
  | top =>
    have hz' : ∀ j, n j = 0 := fun j => hz j rfl
    simp [hz']
  | coe t =>
    rw [← EReal.coe_mul, ← EReal.coe_mul, Finset.sum_mul]
    simp only [← EReal.coe_mul]
    rw [← coe_sum_real]
    simp only [mul_assoc]

/-- A bound on the sum of the products' magnitudes, read back in the integers. -/
theorem abs_row (d : Fin N → EReal) (h : Fin N → ℤ) (hd : ∀ j, d j = ((h j : ℝ) : EReal))
    (hb : ∑ j, max ((code j : ℝ) : EReal) (-((code j : ℝ) : EReal)) * max (d j) (-d j) ≤ Ideal.ofBits .f32 0x4C800000#32) :
    ∑ j, (code j * h j).natAbs ≤ 67108864 := by
  have e : ∀ j, max ((code j : ℝ) : EReal) (-((code j : ℝ) : EReal)) * max (d j) (-d j) = ((((code j * h j).natAbs : ℕ) : ℝ) : EReal) := by
    intro j
    rw [hd, ← EReal.coe_neg, ← EReal.coe_neg, ← EReal.coe_strictMono.monotone.map_max, ← EReal.coe_strictMono.monotone.map_max,
      ← EReal.coe_mul, Nat.cast_natAbs, Int.cast_abs, Int.cast_mul, abs_mul]
    rfl
  simp only [e] at hb
  rw [← coe_sum_real, cbound, EReal.coe_le_coe_iff] at hb
  exact_mod_cast hb

end Cert.Proof.Arith

end
-- ==== Proof.Body0.lean ====
/- The first kernel's body on its staging buffers: what it leaves in them at the first grid point, and at a later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.Proof.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition: the grid coordinate is zero. -/
abbrev cond (i : grid0.Coords) : Prop := (Scalar.cmpi .ne (Scalar.extui (Scalar.cmpi .eq (BitVec.ofNat 32 (i 0).val) 0#32)) 0#32) = 1#1

/-- It holds at the first point and at no other. -/
theorem cond_iff : ∀ t : Fin grid0.N, cond (grid0.coords t) ↔ t.val = 0 := fun t => by
  have ht : t.val < 25 := Nat.lt_of_lt_of_eq t.isLt N_0
  have e0 : (grid0.coords t 0).val = t.val / 1 % 25 := Pipeline.Grid.coords_val t 0 (by decide) rfl
  have e1 : t.val = 0 ↔ t.val % 25 = 0 := by omega
  rw [e1]
  simp only [cond, e0]
  word_cmp

set_option maxHeartbeats 1000000 in
/-- At the first point the body fills its scratch with the first product, then leaves the two outputs' blocks. -/
theorem run_first (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x16 .f32) (harg4 : arg4.IsWhole) (arg5 : Memref sig .tc .vmem S400x10000 .f32) (harg5 : arg5.IsWhole) (arg6 : Memref sig .tc .vmem S400x16 .f32) (harg6 : arg6.IsWhole) (arg7 : Memref sig .tc .vmem S1x400x10000 .i8) (harg7 : arg7.IsWhole) (arg8 : Memref sig .tc .vmem S10000x16 .f32) (harg8 : arg8.IsWhole) (hc : cond i)
    (x0 : Vec F S10000x128 .f32) (x1 : Vec F S128x16 .f32) (x2 : Vec F S1x16 .f32) (x3 : Vec F S16x16 .f32) (x4 : Vec F S400x10000 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x4 (k0_pay1 x0 x1) x2 x3) ∗ owns (c : Thread nD τ) arg7 fullShare (k0_pay3 x4) ∗ owns (c : Thread nD τ) arg8 fullShare (k0_pay1 x0 x1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  have e1 : View.readAt (Elt F) arg1.view (Rect.unit ![0, 0] S10000x128.size inb_S10000x128_S10000x128_0_0).toLoadRect (harg1.unread x0) = x0 :=
    (View.readAt_full _ _ _).trans (harg1.read_unread _)
  have e2 : View.readAt (Elt F) arg2.view (Rect.unit ![0, 0] S128x16.size inb_S128x16_S128x16_0_0).toLoadRect (harg2.unread x1) = x1 :=
    (View.readAt_full _ _ _).trans (harg2.read_unread _)
  have e3 : View.readAt (Elt F) arg3.view (Rect.unit ![0, 0] S1x16.size inb_S1x16_S1x16_0_0).toLoadRect (harg3.unread x2) = x2 :=
    (View.readAt_full _ _ _).trans (harg3.read_unread _)
  have e4 : View.readAt (Elt F) arg4.view (Rect.unit ![0, 0] S16x16.size inb_S16x16_S16x16_0_0).toLoadRect (harg4.unread x3) = x3 :=
    (View.readAt_full _ _ _).trans (harg4.read_unread _)
  have e5 : View.readAt (Elt F) arg5.view (Rect.unit ![0, 0] S400x10000.size inb_S400x10000_S400x10000_0_0).toLoadRect (harg5.unread x4) = x4 :=
    (View.readAt_full _ _ _).trans (harg5.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_full _ _ _ _ _).trans ?_
    unfold run_first.sl.v4 run_first.sl.HS0_1
    rw [View.readCov_full]
  isplitl [H6]
  · iexists _; isplitr; swap; · iexact H6
    ipureintro
    exact View.read_writes_full _ _ _ _ _
  iexists _; isplitr; swap; · iexact HS0
  ipureintro
  unfold run_first.sl.HS0_1
  exact View.read_writes_full _ _ _ _ _

set_option maxHeartbeats 1000000 in
/-- At a later point the body reads the scratch it filled at the first, and leaves the two outputs' blocks. -/
theorem run_later (c : Dev nD) (i : grid0.Coords) (arg1 : Memref sig .tc .vmem S10000x128 .f32) (harg1 : arg1.IsWhole) (arg2 : Memref sig .tc .vmem S128x16 .f32) (harg2 : arg2.IsWhole) (arg3 : Memref sig .tc .vmem S1x16 .f32) (harg3 : arg3.IsWhole) (arg4 : Memref sig .tc .vmem S16x16 .f32) (harg4 : arg4.IsWhole) (arg5 : Memref sig .tc .vmem S400x10000 .f32) (harg5 : arg5.IsWhole) (arg6 : Memref sig .tc .vmem S400x16 .f32) (harg6 : arg6.IsWhole) (arg7 : Memref sig .tc .vmem S1x400x10000 .i8) (harg7 : arg7.IsWhole) (arg8 : Memref sig .tc .vmem S10000x16 .f32) (harg8 : arg8.IsWhole) (hc : ¬ cond i)
    (x0 : Vec F S10000x128 .f32) (x1 : Vec F S128x16 .f32) (x2 : Vec F S1x16 .f32) (x3 : Vec F S16x16 .f32) (x4 : Vec F S400x10000 .f32) (s : Vec F S10000x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x4 s x2 x3) ∗ owns (c : Thread nD τ) arg7 fullShare (k0_pay3 x4) ∗ owns (c : Thread nD τ) arg8 fullShare s) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hfs0
  have e1 : View.readAt (Elt F) arg1.view (Rect.unit ![0, 0] S10000x128.size inb_S10000x128_S10000x128_0_0).toLoadRect (harg1.unread x0) = x0 :=
    (View.readAt_full _ _ _).trans (harg1.read_unread _)
  have e2 : View.readAt (Elt F) arg2.view (Rect.unit ![0, 0] S128x16.size inb_S128x16_S128x16_0_0).toLoadRect (harg2.unread x1) = x1 :=
    (View.readAt_full _ _ _).trans (harg2.read_unread _)
  have e3 : View.readAt (Elt F) arg3.view (Rect.unit ![0, 0] S1x16.size inb_S1x16_S1x16_0_0).toLoadRect (harg3.unread x2) = x2 :=
    (View.readAt_full _ _ _).trans (harg3.read_unread _)
  have e4 : View.readAt (Elt F) arg4.view (Rect.unit ![0, 0] S16x16.size inb_S16x16_S16x16_0_0).toLoadRect (harg4.unread x3) = x3 :=
    (View.readAt_full _ _ _).trans (harg4.read_unread _)
  have e5 : View.readAt (Elt F) arg5.view (Rect.unit ![0, 0] S400x10000.size inb_S400x10000_S400x10000_0_0).toLoadRect (harg5.unread x4) = x4 :=
    (View.readAt_full _ _ _).trans (harg5.read_unread _)
  have e8 : View.readAt (Elt F) arg8.view (Rect.unit ![0, 0] S10000x16.size inb_S10000x16_S10000x16_0_0).toLoadRect (harg8.unread s) = s :=
    (View.readAt_full _ _ _).trans (harg8.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact View.read_writes_full _ _ _ _ _
  isplitl [H6]
  · iexists _; isplitr; swap; · iexact H6
    ipureintro
    exact View.read_writes_full _ _ _ _ _
  iexists _; isplitr; · ipureintro; exact harg8.read_unread _
  iexact HS0

end Cert.Proof.Pass1

end
-- ==== Proof.Data0.lean ====
/- The first kernel's pipeline: what every window holds at each point, and the body's obligation there. -/
module

public import proofs.«01_k».proof.Proof.Body0

@[expose] public section

set_option maxRecDepth 16384

noncomputable section

namespace Cert.Proof.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point. -/
def pt0 : Fin cfg0.N := ⟨0, Nat.lt_of_lt_of_eq (by decide : 0 < 25) N_0.symm⟩

/-- What the scratch holds once the first point has run: the features times the first weights. -/
def scr (c : Dev nD) : Vec F S10000x16 .f32 := k0_pay1 (iblk V c 0 pt0) (iblk V c 1 pt0)

/-- The scoped buffers that neither a window nor the body of this region uses. -/
def rest (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

abbrev scM : Memref sig .tc .vmem S10000x16 .f32 := Memref.whole cc0_scratch0

/-- The region's invariant before point `t`: the scratch holds the product from the second point on. -/
def inv (c : Dev nD) (n : ℕ) : sProp 𝕄 :=
  iprop((∃ f, ⌜n ≠ 0 → f = scr V c⌝ ∗ owns (c : Thread nD τ) scM fullShare f) ∗ rest c ∗ (∃ r, prngReg c r))

theorem scoped_eq (c : Dev nD) :
    (Pipeline.scopedRest spec0 c : sProp 𝕄) = iprop((∃ f, owns (c : Thread nD τ) scM fullShare f) ∗ rest c) := by
  rw [scopedRest0_eq]; simp only [scM, owns_whole]; rfl

theorem inv_zero (c : Dev nD) : iprop((∃ r, prngReg c r) ∗ Pipeline.scopedRest spec0 c) ⊢ (inv V c 0 : sProp 𝕄) := by
  rw [scoped_eq]; unfold inv
  iintro ⟨Hp, ⟨%f, HS⟩, Hr⟩
  isplitl [HS]
  · iexists f; isplitr
    · ipureintro; exact fun h => absurd rfl h
    iexact HS
  isplitl [Hr]; · iexact Hr
  iexact Hp

theorem inv_last (c : Dev nD) (n : ℕ) : (inv V c n : sProp 𝕄) ⊢ iprop((∃ r, prngReg c r) ∗ Pipeline.scopedRest spec0 c) := by
  rw [scoped_eq]; unfold inv
  iintro ⟨⟨%f, -, HS⟩, Hr, Hp⟩
  isplitl [Hp]; · iexact Hp
  isplitl [HS]; · iexists f; iexact HS
  iexact Hr

/-- The region's proof data: the arrays as it finds them; after the body at `t` each input's buffer at its block and each output's at what the body computes. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay2 (iblk V c 4 t) (scr V c) (iblk V c 2 t) (iblk V c 3 t)
    | ⟨6, _⟩ => k0_pay3 (iblk V c 4 t)
  Φ t := inv V c t.val
  q _ := fullShare
  owed _ := 0

theorem A_eq (c : Dev nD) (w : Fin cfg0.W) : (dat V c).A w = V c (Pipeline.arrRef spec0 w) := by dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = k0_pay2 (iblk V c 4 t) (scr V c) (iblk V c 2 t) (iblk V c 3 t) := by dsimp only [dat]
theorem after_6 (c : Dev nD) (t : Fin cfg0.N) : (dat V c).after 6 t = k0_pay3 (iblk V c 4 t) := by dsimp only [dat]

/-- Each input's current staging buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg0.N) : sProp 𝕄 :=
  iprop((dat V c).Φ t.castSucc ∗ (dat V c).owesAt () t.castSucc
    ∗ (∃ d, owns (c : Thread nD τ) (win0_0.stage (cfg0.slots t 0)) fullShare ((dat V c).before 0 t d))
    ∗ (∃ d, owns (c : Thread nD τ) (win0_1.stage (cfg0.slots t 1)) fullShare ((dat V c).before 1 t d))
    ∗ (∃ d, owns (c : Thread nD τ) (win0_2.stage (cfg0.slots t 2)) fullShare ((dat V c).before 2 t d))
    ∗ (∃ d, owns (c : Thread nD τ) (win0_3.stage (cfg0.slots t 3)) fullShare ((dat V c).before 3 t d))
    ∗ (∃ d, owns (c : Thread nD τ) (win0_4.stage (cfg0.slots t 4)) fullShare ((dat V c).before 4 t d))
    ∗ (∃ d, owns (c : Thread nD τ) (win0_5.stage (cfg0.slots t 5)) fullShare ((dat V c).before 5 t d))
    ∗ (∃ d, owns (c : Thread nD τ) (win0_6.stage (cfg0.slots t 6)) fullShare ((dat V c).before 6 t d)))
def bodyPost (c : Dev nD) (t : Fin cfg0.N) : sProp 𝕄 :=
  iprop((dat V c).Φ t.succ ∗ (dat V c).owesAt () t.succ
    ∗ owns (c : Thread nD τ) (win0_0.stage (cfg0.slots t 0)) fullShare ((dat V c).after 0 t)
    ∗ owns (c : Thread nD τ) (win0_1.stage (cfg0.slots t 1)) fullShare ((dat V c).after 1 t)
    ∗ owns (c : Thread nD τ) (win0_2.stage (cfg0.slots t 2)) fullShare ((dat V c).after 2 t)
    ∗ owns (c : Thread nD τ) (win0_3.stage (cfg0.slots t 3)) fullShare ((dat V c).after 3 t)
    ∗ owns (c : Thread nD τ) (win0_4.stage (cfg0.slots t 4)) fullShare ((dat V c).after 4 t)
    ∗ owns (c : Thread nD τ) (win0_5.stage (cfg0.slots t 5)) fullShare ((dat V c).after 5 t)
    ∗ owns (c : Thread nD τ) (win0_6.stage (cfg0.slots t 6)) fullShare ((dat V c).after 6 t))

set_option maxHeartbeats 1600000 in
/-- The body's triple at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl,
    after_0, after_1, after_2, after_3, after_4, after_5, after_6]
  rw [show (dat V c).Φ t.castSucc = inv V c t.val from rfl, show (dat V c).Φ t.succ = inv V c (t.val + 1) from rfl]
  unfold inv
  by_cases h0 : t.val = 0
  · have ht : t = pt0 := Fin.ext h0
    iintro ⟨⟨⟨%f, %hf, HS0⟩, Hr, Hg⟩, Ho, ⟨%d0, H0⟩, ⟨%d1, H1⟩, ⟨%d2, H2⟩, ⟨%d3, H3⟩, ⟨%d4, H4⟩, ⟨%d5, H5⟩, ⟨%d6, H6⟩⟩
    iapply ((run_first c (grid0.coords t) _ _ _ _ _ _ _ _ _ _ _ _ _ _ _ _ ((cond_iff t).mpr h0) (iblk V c 0 t) (iblk V c 1 t) (iblk V c 2 t) (iblk V c 3 t) (iblk V c 4 t) ) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    iintro ⟨H0, H1, H2, H3, H4, H5, H6, HS0⟩
    isplitl [HS0 Hr Hg]
    · isplitl [HS0]
      · iexists _; isplitr; swap; · iexact HS0
        ipureintro; intro _; subst ht; rfl
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · subst ht; iexact H5
    iexact H6
  · iintro ⟨⟨⟨%f, %hf, HS0⟩, Hr, Hg⟩, Ho, ⟨%d0, H0⟩, ⟨%d1, H1⟩, ⟨%d2, H2⟩, ⟨%d3, H3⟩, ⟨%d4, H4⟩, ⟨%d5, H5⟩, ⟨%d6, H6⟩⟩
    obtain rfl := hf h0
    iapply ((run_later c (grid0.coords t) _ _ _ _ _ _ _ _ _ _ _ _ _ _ _ _ (fun h => h0 ((cond_iff t).mp h)) (iblk V c 0 t) (iblk V c 1 t) (iblk V c 2 t) (iblk V c 3 t) (iblk V c 4 t) (scr V c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hr Hg]
    · isplitl [HS0]
      · iexists _; isplitr; swap; · iexact HS0
        ipureintro; intro _; rfl
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.Proof.Pass1

end
-- ==== Proof.Body1.lean ====
/- The second kernel's body on its staging buffers: what it leaves in them at the first grid point, and at a later one. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.ValueIdxCore

@[expose] public section

set_option maxRecDepth 16384

noncomputable section

namespace Cert.Proof.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (UR sig nD τ) ℕ

/-- The body's branch condition: the grid coordinate is zero. -/
abbrev cond (i : grid1.Coords) : Prop := (Scalar.cmpi .ne (Scalar.extui (Scalar.cmpi .eq (BitVec.ofNat 32 (i 0).val) 0#32)) 0#32) = 1#1

/-- It holds at the first point and at no other. -/
theorem cond_iff : ∀ t : Fin grid1.N, cond (grid1.coords t) ↔ t.val = 0 := fun t => by
  have ht : t.val < 5 := Nat.lt_of_lt_of_eq t.isLt N_1
  have e0 : (grid1.coords t 0).val = t.val / 1 % 5 := Pipeline.Grid.coords_val t 0 (by decide) rfl
  have e1 : t.val = 0 ↔ t.val % 5 = 0 := by omega
  rw [e1]
  simp only [cond, e0]
  word_cmp

/-- Slab `k` of a block of five. -/
abbrev slab0 (x : Vec F S5x400x10000 .i8) : Vec F S1x400x10000 .i8 := View.ld x (Rect.unit (s := S5x400x10000) ![0, 0, 0] S1x400x10000.size inb_S5x400x10000_S1x400x10000_0_0_0)
abbrev slab1 (x : Vec F S5x400x10000 .i8) : Vec F S1x400x10000 .i8 := View.ld x (Rect.unit (s := S5x400x10000) ![1, 0, 0] S1x400x10000.size inb_S5x400x10000_S1x400x10000_1_0_0)
abbrev slab2 (x : Vec F S5x400x10000 .i8) : Vec F S1x400x10000 .i8 := View.ld x (Rect.unit (s := S5x400x10000) ![2, 0, 0] S1x400x10000.size inb_S5x400x10000_S1x400x10000_2_0_0)
abbrev slab3 (x : Vec F S5x400x10000 .i8) : Vec F S1x400x10000 .i8 := View.ld x (Rect.unit (s := S5x400x10000) ![3, 0, 0] S1x400x10000.size inb_S5x400x10000_S1x400x10000_3_0_0)
abbrev slab4 (x : Vec F S5x400x10000 .i8) : Vec F S1x400x10000 .i8 := View.ld x (Rect.unit (s := S5x400x10000) ![4, 0, 0] S1x400x10000.size inb_S5x400x10000_S1x400x10000_4_0_0)

/-- The block the body leaves, from the five slabs, the packed right operand, the scale and column-sum rows and the bias. -/
noncomputable def out (x : Vec F S5x400x10000 .i8) (w : Vec F S10000x32 .i8) (a b d : Vec F S1x16 .f32) : Vec F S2000x16 .f32 :=
  k1_pay1 (k1_pay7 (slab0 x) w) (k1_pay8 (slab1 x) w) (k1_pay9 (slab2 x) w) (k1_pay10 (slab3 x) w) (k1_pay11 (slab4 x)) w (constantI S400x32 32 0#32) a b d

/-- Two rows, one over the other. -/
def rows (a b : Vec F S1x16 .f32) : Vec F S2x16 .f32 := fun i => if (i 0).val = 0 then a (ix2 (0 : Fin 1) (i 1)) else b (ix2 (0 : Fin 1) (i 1))

theorem ld_rows0 (a b : Vec F S1x16 .f32) : View.ld (rows a b) (Rect.unit (s := S2x16) ![0, 0] S1x16.size inb_S2x16_S1x16_0_0) = a := by
  funext j
  have h0 : (j 0).val < 1 := (j 0).isLt
  refine (if_pos (show 0 + 1 * (j 0).val = 0 by omega)).trans (congrArg a ?_)
  funext p; apply Fin.ext
  match p with
  | ⟨0, _⟩ => show 0 = (j 0).val; omega
  | ⟨1, _⟩ => show 0 + 1 * (j 1).val = (j 1).val; omega

theorem ld_rows1 (a b : Vec F S1x16 .f32) : View.ld (rows a b) (Rect.unit (s := S2x16) ![1, 0] S1x16.size inb_S2x16_S1x16_1_0) = b := by
  funext j
  have h0 : (j 0).val < 1 := (j 0).isLt
  refine (if_neg (show ¬ 1 + 1 * (j 0).val = 0 by omega)).trans (congrArg b ?_)
  funext p; apply Fin.ext
  match p with
  | ⟨0, _⟩ => show 0 = (j 0).val; omega
  | ⟨1, _⟩ => show 0 + 1 * (j 1).val = (j 1).val; omega

theorem read_rows (m : Memref sig .tc .vmem S2x16 .f32) (f : m.view.ty.Contents (Elt F)) (a b : Vec F S1x16 .f32) :
    m.view.read (Elt F) (m.view.writes (Elt F) f
      [⟨Rect.unit ![1, 0] S1x16.size inb_S2x16_S1x16_1_0, b⟩, ⟨Rect.unit ![0, 0] S1x16.size inb_S2x16_S1x16_0_0, a⟩]) = rows a b := by
  funext y
  have hy : (y 0).val < 2 := (y 0).isLt
  unfold rows
  by_cases h : (y 0).val = 0
  · rw [if_pos h]
    refine (View.read_writes_cons_unit_of_not_mem _ _ _ _ _ y rfl (0 : Fin 2) (Or.inl ?_)).trans
      (View.read_writes_cons_unit_of_mem _ _ _ _ _ y (ix2 (0 : Fin 1) (y 1) : S1x16.Idx) rfl ?_)
    · show (y 0).val < 1; omega
    · intro p; match p with
      | ⟨0, _⟩ => exact h
      | ⟨1, _⟩ => show (y 1).val = 0 + (y 1).val; omega
  · rw [if_neg h]
    refine View.read_writes_cons_unit_of_mem _ _ _ _ _ y (ix2 (0 : Fin 1) (y 1) : S1x16.Idx) rfl ?_
    intro p; match p with
    | ⟨0, _⟩ => show (y 0).val = 1 + 0; omega
    | ⟨1, _⟩ => show (y 1).val = 0 + (y 1).val; omega

set_option maxHeartbeats 1000000 in
/-- At the first point the body fills its scratch from the support matrix, then leaves the output's block. -/
theorem run_first (c : Dev nD) (i : grid1.Coords) (arg1 : Memref sig .tc .vmem S5x400x10000 .i8) (harg1 : arg1.IsWhole) (arg2 : Memref sig .tc .vmem S10000x16 .f32) (harg2 : arg2.IsWhole) (arg3 : Memref sig .tc .vmem S1x16 .f32) (harg3 : arg3.IsWhole) (arg4 : Memref sig .tc .vmem S2000x16 .f32) (harg4 : arg4.IsWhole) (arg5 : Memref sig .tc .vmem S10000x32 .i8) (harg5 : arg5.IsWhole) (arg6 : Memref sig .tc .vmem S2x16 .f32) (harg6 : arg6.IsWhole) (hc : cond i)
    (x0 : Vec F S5x400x10000 .i8) (x1 : Vec F S10000x16 .f32) (x2 : Vec F S1x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out x0 (k1_pay4 x1) (k1_pay5 x1) (k1_pay6 x1) x2) ∗ owns (c : Thread nD τ) arg5 fullShare (k1_pay4 x1) ∗ owns (c : Thread nD τ) arg6 fullShare (rows (k1_pay5 x1) (k1_pay6 x1))) -∗ K ⟨⟩))
      ⊢ wp frame (wpE (defs₀ (F := F)) Variants.none c none) E (cc1__pass2_body i arg1 harg1 arg2 harg2 arg3 harg3 arg4 harg4 arg5 harg5 arg6 harg6) K := by
  simp only [cc1__pass2_body_eq_skeleton]; unfold cc1__pass2_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg1.eq_unread hf0; obtain rfl := harg2.eq_unread hf1; obtain rfl := harg3.eq_unread hf2
  have e10 : View.readAt (Elt F) arg1.view (Rect.unit (s := S5x400x10000) ![0, 0, 0] S1x400x10000.size inb_S5x400x10000_S1x400x10000_0_0_0).toLoadRect (harg1.unread x0) = slab0 x0 :=
    congrArg (fun y => View.ld y (Rect.unit (s := S5x400x10000) ![0, 0, 0] S1x400x10000.size inb_S5x400x10000_S1x400x10000_0_0_0)) (harg1.read_unread x0)
  have e11 : View.readAt (Elt F) arg1.view (Rect.unit (s := S5x400x10000) ![1, 0, 0] S1x400x10000.size inb_S5x400x10000_S1x400x10000_1_0_0).toLoadRect (harg1.unread x0) = slab1 x0 :=
    congrArg (fun y => View.ld y (Rect.unit (s := S5x400x10000) ![1, 0, 0] S1x400x10000.size inb_S5x400x10000_S1x400x10000_1_0_0)) (harg1.read_unread x0)
  have e12 : View.readAt (Elt F) arg1.view (Rect.unit (s := S5x400x10000) ![2, 0, 0] S1x400x10000.size inb_S5x400x10000_S1x400x10000_2_0_0).toLoadRect (harg1.unread x0) = slab2 x0 :=
    congrArg (fun y => View.ld y (Rect.unit (s := S5x400x10000) ![2, 0, 0] S1x400x10000.size inb_S5x400x10000_S1x400x10000_2_0_0)) (harg1.read_unread x0)
  have e13 : View.readAt (Elt F) arg1.view (Rect.unit (s := S5x400x10000) ![3, 0, 0] S1x400x10000.size inb_S5x400x10000_S1x400x10000_3_0_0).toLoadRect (harg1.unread x0) = slab3 x0 :=
    congrArg (fun y => View.ld y (Rect.unit (s := S5x400x10000) ![3, 0, 0] S1x400x10000.size inb_S5x400x10000_S1x400x10000_3_0_0)) (harg1.read_unread x0)
  have e14 : View.readAt (Elt F) arg1.view (Rect.unit (s := S5x400x10000) ![4, 0, 0] S1x400x10000.size inb_S5x400x10000_S1x400x10000_4_0_0).toLoadRect (harg1.unread x0) = slab4 x0 :=
    congrArg (fun y => View.ld y (Rect.unit (s := S5x400x10000) ![4, 0, 0] S1x400x10000.size inb_S5x400x10000_S1x400x10000_4_0_0)) (harg1.read_unread x0)
  have e2 : View.readAt (Elt F) arg2.view (Rect.unit ![0, 0] S10000x16.size inb_S10000x16_S10000x16_0_0).toLoadRect (harg2.unread x1) = x1 :=
    (View.readAt_full _ _ _).trans (harg2.read_unread _)
  have e3 : View.readAt (Elt F) arg3.view (Rect.unit ![0, 0] S1x16.size inb_S1x16_S1x16_0_0).toLoadRect (harg3.unread x2) = x2 :=
    (View.readAt_full _ _ _).trans (harg3.read_unread _)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full _ _ _ _ _).trans ?_
    have hv5 : run_first.sl.v5 c arg5 x1 = k1_pay4 x1 := by
      unfold run_first.sl.v5 run_first.sl.HS0_1
      exact View.readCov_full _ _ _ _ _
    dsimp only
    rw [hv5]
    have hv29 : run_first.sl.v29 c arg6 x1 = k1_pay5 x1 :=
      (congrArg (fun y => View.ld y (Rect.unit (s := S2x16) ![0, 0] S1x16.size inb_S2x16_S1x16_0_0)) (read_rows arg6 _ _ _)).trans (ld_rows0 _ _)
    have hv30 : run_first.sl.v30 c arg6 x1 = k1_pay6 x1 :=
      (congrArg (fun y => View.ld y (Rect.unit (s := S2x16) ![1, 0] S1x16.size inb_S2x16_S1x16_1_0)) (read_rows arg6 _ _ _)).trans (ld_rows1 _ _)
    rw [hv29, hv30]
    rfl
  isplitl [HS0]
  · iexists _; isplitr; swap; · iexact HS0
    ipureintro
    unfold run_first.sl.HS0_1
    exact View.read_writes_full _ _ _ _ _
  iexists _; isplitr; swap; · iexact HS1
  ipureintro
  unfold run_first.sl.HS1_2
  exact read_rows _ _ _ _

set_option maxHeartbeats 1000000 in
/-- At a later point the body reads the scratch it filled at the first, and leaves the output's block. -/
theorem run_later (c : Dev nD) (i : grid1.Coords) (arg1 : Memref sig .tc .vmem S5x400x10000 .i8) (harg1 : arg1.IsWhole) (arg2 : Memref sig .tc .vmem S10000x16 .f32) (harg2 : arg2.IsWhole) (arg3 : Memref sig .tc .vmem S1x16 .f32) (harg3 : arg3.IsWhole) (arg4 : Memref sig .tc .vmem S2000x16 .f32) (harg4 : arg4.IsWhole) (arg5 : Memref sig .tc .vmem S10000x32 .i8) (harg5 : arg5.IsWhole) (arg6 : Memref sig .tc .vmem S2x16 .f32) (harg6 : arg6.IsWhole) (hc : ¬ cond i)
    (x0 : Vec F S5x400x10000 .i8) (x1 : Vec F S10000x16 .f32) (x2 : Vec F S1x16 .f32) (w : Vec F S10000x32 .i8) (a b : Vec F S1x16 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare w ∗ owns (c : Thread nD τ) arg6 fullShare (rows a b)
        ∗ (iprop(owns (c : Thread nD τ) arg1 fullShare x0 ∗ owns (c : Thread nD τ) arg2 fullShare x1 ∗ owns (c : Thread nD τ) arg3 fullShare x2 ∗ owns (c : Thread nD τ) arg4 fullShare (out x0 w a b x2) ∗ owns (c : Thread nD τ) arg5 fullShare w ∗ owns (c : Thread nD τ) arg6 fullShare (rows a b)) -∗ K ⟨⟩))
      ⊢ wp frame (wpE (defs₀ (F := F)) Variants.none c none) E (cc1__pass2_body i arg1 harg1 arg2 harg2 arg3 harg3 arg4 harg4 arg5 harg5 arg6 harg6) K := by
  simp only [cc1__pass2_body_eq_skeleton]; unfold cc1__pass2_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg5.eq_unread hfs0; obtain rfl := harg6.eq_unread hfs1
  have e10 : View.readAt (Elt F) arg1.view (Rect.unit (s := S5x400x10000) ![0, 0, 0] S1x400x10000.size inb_S5x400x10000_S1x400x10000_0_0_0).toLoadRect (harg1.unread x0) = slab0 x0 :=
    congrArg (fun y => View.ld y (Rect.unit (s := S5x400x10000) ![0, 0, 0] S1x400x10000.size inb_S5x400x10000_S1x400x10000_0_0_0)) (harg1.read_unread x0)
  have e11 : View.readAt (Elt F) arg1.view (Rect.unit (s := S5x400x10000) ![1, 0, 0] S1x400x10000.size inb_S5x400x10000_S1x400x10000_1_0_0).toLoadRect (harg1.unread x0) = slab1 x0 :=
    congrArg (fun y => View.ld y (Rect.unit (s := S5x400x10000) ![1, 0, 0] S1x400x10000.size inb_S5x400x10000_S1x400x10000_1_0_0)) (harg1.read_unread x0)
  have e12 : View.readAt (Elt F) arg1.view (Rect.unit (s := S5x400x10000) ![2, 0, 0] S1x400x10000.size inb_S5x400x10000_S1x400x10000_2_0_0).toLoadRect (harg1.unread x0) = slab2 x0 :=
    congrArg (fun y => View.ld y (Rect.unit (s := S5x400x10000) ![2, 0, 0] S1x400x10000.size inb_S5x400x10000_S1x400x10000_2_0_0)) (harg1.read_unread x0)
  have e13 : View.readAt (Elt F) arg1.view (Rect.unit (s := S5x400x10000) ![3, 0, 0] S1x400x10000.size inb_S5x400x10000_S1x400x10000_3_0_0).toLoadRect (harg1.unread x0) = slab3 x0 :=
    congrArg (fun y => View.ld y (Rect.unit (s := S5x400x10000) ![3, 0, 0] S1x400x10000.size inb_S5x400x10000_S1x400x10000_3_0_0)) (harg1.read_unread x0)
  have e14 : View.readAt (Elt F) arg1.view (Rect.unit (s := S5x400x10000) ![4, 0, 0] S1x400x10000.size inb_S5x400x10000_S1x400x10000_4_0_0).toLoadRect (harg1.unread x0) = slab4 x0 :=
    congrArg (fun y => View.ld y (Rect.unit (s := S5x400x10000) ![4, 0, 0] S1x400x10000.size inb_S5x400x10000_S1x400x10000_4_0_0)) (harg1.read_unread x0)
  have e2 : View.readAt (Elt F) arg2.view (Rect.unit ![0, 0] S10000x16.size inb_S10000x16_S10000x16_0_0).toLoadRect (harg2.unread x1) = x1 :=
    (View.readAt_full _ _ _).trans (harg2.read_unread _)
  have e3 : View.readAt (Elt F) arg3.view (Rect.unit ![0, 0] S1x16.size inb_S1x16_S1x16_0_0).toLoadRect (harg3.unread x2) = x2 :=
    (View.readAt_full _ _ _).trans (harg3.read_unread _)
  have e5 : View.readAt (Elt F) arg5.view (Rect.unit ![0, 0] S10000x32.size inb_S10000x32_S10000x32_0_0).toLoadRect (harg5.unread w) = w :=
    (View.readAt_full _ _ _).trans (harg5.read_unread _)
  have e60 : View.readAt (Elt F) arg6.view (Rect.unit (s := S2x16) ![0, 0] S1x16.size inb_S2x16_S1x16_0_0).toLoadRect (harg6.unread (rows a b)) = a :=
    (congrArg (fun y => View.ld y (Rect.unit (s := S2x16) ![0, 0] S1x16.size inb_S2x16_S1x16_0_0)) (harg6.read_unread _)).trans (ld_rows0 a b)
  have e61 : View.readAt (Elt F) arg6.view (Rect.unit (s := S2x16) ![1, 0] S1x16.size inb_S2x16_S1x16_1_0).toLoadRect (harg6.unread (rows a b)) = b :=
    (congrArg (fun y => View.ld y (Rect.unit (s := S2x16) ![1, 0] S1x16.size inb_S2x16_S1x16_1_0)) (harg6.read_unread _)).trans (ld_rows1 a b)
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    refine (View.read_writes_full _ _ _ _ _).trans ?_
    rfl
  isplitl [HS0]
  · iexists _; isplitr; · ipureintro; exact harg5.read_unread _
    iexact HS0
  iexists _; isplitr; · ipureintro; exact harg6.read_unread _
  iexact HS1

end Cert.Proof.Pass2

end
-- ==== Proof.Data1.lean ====
/- The second kernel's pipeline: what every window holds at each point, and the body's obligation there. -/
module

public import proofs.«01_k».proof.Proof.Body1

@[expose] public section

set_option maxRecDepth 16384

noncomputable section

namespace Cert.Proof.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first point. -/
def pt0 : Fin cfg1.N := ⟨0, Nat.lt_of_lt_of_eq (by decide : 0 < 5) N_1.symm⟩

/-- What the scratches hold once the first point has run: the packed right operand, and the scale and column-sum rows. -/
def scrW (c : Dev nD) : Vec F S10000x32 .i8 := k1_pay4 (iblk V c 1 pt0)
def scrA (c : Dev nD) : Vec F S1x16 .f32 := k1_pay5 (iblk V c 1 pt0)
def scrB (c : Dev nD) : Vec F S1x16 .f32 := k1_pay6 (iblk V c 1 pt0)

/-- The scoped buffers that neither a window nor the body of this region uses. -/
def rest (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f))

abbrev scM0 : Memref sig .tc .vmem S10000x32 .i8 := Memref.whole cc1_scratch0
abbrev scM1 : Memref sig .tc .vmem S2x16 .f32 := Memref.whole cc1_scratch1

/-- The region's invariant before point `t`: the scratches hold the operand and the rows from the second point on. -/
def inv (c : Dev nD) (n : ℕ) : sProp 𝕄 :=
  iprop((∃ f, ⌜n ≠ 0 → f = scrW V c⌝ ∗ owns (c : Thread nD τ) scM0 fullShare f) ∗ (∃ f, ⌜n ≠ 0 → f = rows (scrA V c) (scrB V c)⌝ ∗ owns (c : Thread nD τ) scM1 fullShare f)
    ∗ rest c ∗ (∃ r, prngReg c r))

theorem scoped_to (c : Dev nD) :
    (Pipeline.scopedRest spec1 c : sProp 𝕄) ⊢ iprop((∃ f, owns (c : Thread nD τ) scM0 fullShare f) ∗ (∃ f, owns (c : Thread nD τ) scM1 fullShare f) ∗ rest c) := by
  rw [scopedRest1_eq]; simp only [scM0, scM1, owns_whole]; unfold rest
  iintro ⟨A1, A2, A3, A4, A5, A6, A7, A8, A9, A10, A11, B0, B1⟩
  isplitl [B0]; · iexact B0
  isplitl [B1]; · iexact B1
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  iexact A11

theorem scoped_of (c : Dev nD) :
    iprop((∃ f, owns (c : Thread nD τ) scM0 fullShare f) ∗ (∃ f, owns (c : Thread nD τ) scM1 fullShare f) ∗ rest c) ⊢ (Pipeline.scopedRest spec1 c : sProp 𝕄) := by
  rw [scopedRest1_eq]; simp only [scM0, scM1, owns_whole]; unfold rest
  iintro ⟨B0, B1, A1, A2, A3, A4, A5, A6, A7, A8, A9, A10, A11⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [B0]; · iexact B0
  iexact B1

theorem inv_zero (c : Dev nD) : iprop((∃ r, prngReg c r) ∗ Pipeline.scopedRest spec1 c) ⊢ (inv V c 0 : sProp 𝕄) := by
  unfold inv
  iintro ⟨Hp, HS⟩
  ihave H := (scoped_to (F := F) c) $$ HS
  icases H with ⟨⟨%f, H0⟩, ⟨%g, H1⟩, Hr⟩
  isplitl [H0]
  · iexists f; isplitr
    · ipureintro; exact fun h => absurd rfl h
    iexact H0
  isplitl [H1]
  · iexists g; isplitr
    · ipureintro; exact fun h => absurd rfl h
    iexact H1
  isplitl [Hr]; · iexact Hr
  iexact Hp

theorem inv_last (c : Dev nD) (n : ℕ) : (inv V c n : sProp 𝕄) ⊢ iprop((∃ r, prngReg c r) ∗ Pipeline.scopedRest spec1 c) := by
  unfold inv
  iintro ⟨⟨%f, -, H0⟩, ⟨%g, -, H1⟩, Hr, Hp⟩
  isplitl [Hp]; · iexact Hp
  iapply (scoped_of (F := F) c)
  isplitl [H0]; · iexists f; iexact H0
  isplitl [H1]; · iexists g; iexact H1
  iexact Hr

/-- The region's proof data: the arrays as it finds them; after the body at `t` each input's buffer at its block and each output's at what the body computes. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => out (iblk V c 0 t) (scrW V c) (scrA V c) (scrB V c) (iblk V c 2 t)
  Φ t := inv V c t.val
  q _ := fullShare
  owed _ := 0

theorem A_eq (c : Dev nD) (w : Fin cfg1.W) : (dat V c).A w = V c (Pipeline.arrRef spec1 w) := by dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = out (iblk V c 0 t) (scrW V c) (scrA V c) (scrB V c) (iblk V c 2 t) := by dsimp only [dat]

/-- Each input's current staging buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, and what it returns. -/
def bodyPre (c : Dev nD) (t : Fin cfg1.N) : sProp 𝕄 :=
  iprop((dat V c).Φ t.castSucc ∗ (dat V c).owesAt () t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d)))
def bodyPost (c : Dev nD) (t : Fin cfg1.N) : sProp 𝕄 :=
  iprop((dat V c).Φ t.succ ∗ (dat V c).owesAt () t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t))

set_option maxHeartbeats 1600000 in
/-- The body's triple at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    after_0, after_1, after_2, after_3]
  rw [show (dat V c).Φ t.castSucc = inv V c t.val from rfl, show (dat V c).Φ t.succ = inv V c (t.val + 1) from rfl]
  unfold inv
  by_cases h0 : t.val = 0
  · have ht : t = pt0 := Fin.ext h0
    iintro ⟨⟨⟨%f, %hf, HS0⟩, ⟨%g, %hg, HS1⟩, Hr, Hg⟩, Ho, ⟨%d0, H0⟩, ⟨%d1, H1⟩, ⟨%d2, H2⟩, ⟨%d3, H3⟩⟩
    iapply ((run_first c (grid1.coords t) _ _ _ _ _ _ _ _ _ _ _ _ ((cond_iff t).mpr h0) (iblk V c 0 t) (iblk V c 1 t) (iblk V c 2 t) ) Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    iintro ⟨H0, H1, H2, H3, HS0, HS1⟩
    isplitl [HS0 HS1 Hr Hg]
    · isplitl [HS0]
      · iexists _; isplitr; swap; · iexact HS0
        ipureintro; intro _; subst ht; rfl
      isplitl [HS1]
      · iexists _; isplitr; swap; · iexact HS1
        ipureintro; intro _; subst ht; rfl
      isplitl [Hr]; · iexact Hr
      iexact Hg
    isplitl [Ho]; · iexact Ho
    isplitl [H0]; · iexact H0
    isplitl [H1]; · iexact H1
    isplitl [H2]; · iexact H2
    subst ht; iexact H3
  · iintro ⟨⟨⟨%f, %hf, HS0⟩, ⟨%g, %hg, HS1⟩, Hr, Hg⟩, Ho, ⟨%d0, H0⟩, ⟨%d1, H1⟩, ⟨%d2, H2⟩, ⟨%d3, H3⟩⟩
    obtain rfl := hf h0
    obtain rfl := hg h0
    iapply ((run_later c (grid1.coords t) _ _ _ _ _ _ _ _ _ _ _ _ (fun h => h0 ((cond_iff t).mp h)) (iblk V c 0 t) (iblk V c 1 t) (iblk V c 2 t) (scrW V c) (scrA V c) (scrB V c)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0]
      · iexists _; isplitr; swap; · iexact HS0
        ipureintro; intro _; rfl
      isplitl [HS1]
      · iexists _; isplitr; swap; · iexact HS1
        ipureintro; intro _; rfl
      isplitl [Hr]; · iexact Hr
      iexact Hg
    isplitl [Ho]; · iexact Ho
    isplitl [H0]; · iexact H0
    isplitl [H1]; · iexact H1
    isplitl [H2]; · iexact H2
    iexact H3

/-- The body table's row at point `t`'s slots is the body there. -/
theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.Proof.Pass2

end
-- ==== Proof.Whole.lean ====
/- The whole program's run: the two kernels launched one after the other, and what every buffer holds at the end. -/
module

public import proofs.«01_k».proof.Proof.Data0
public import proofs.«01_k».proof.Proof.Data1
public import proofs.«01_k».proof.Proof.Gen.KernelIdeal.Regions
public import Idealize.ShloMosaic.Lib.Pipeline.Frame
public import Idealize.ShloMosaic.Lib.Pipeline.Regions
public import Idealize.ShloMosaic.Lib.Pipeline.RegionsLoop

@[expose] public section

set_option maxRecDepth 16384

noncomputable section

namespace Cert.Proof.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first kernel finds: the buffers after the host's reshapes. -/
def E1 (c : Dev nD) (b : Ref sig .tc) : Buf (Elt F) ((c : Thread nD τ).loc b) := V1 m c b
/-- The buffers after the first kernel. -/
def W2 (c : Dev nD) : Valuation τ sig (Elt F) :=
  Function.update (Function.update (V1 m c) main_v2_0 ((Pass1.dat (E1 m) c).arrAt 5 cfg0.N)) main_v2_1 ((Pass1.dat (E1 m) c).arrAt 6 cfg0.N)
/-- What the second kernel finds. -/
def E2 (c : Dev nD) (b : Ref sig .tc) : Buf (Elt F) ((c : Thread nD τ).loc b) := W2 m c b
/-- The buffers at the end. -/
def W3 (c : Dev nD) : Valuation τ sig (Elt F) :=
  Function.update (W2 m c) main_v3 ((Pass2.dat (E2 m) c).arrAt 3 cfg1.N)

theorem W2_of (c : Dev nD) (r : Ref sig .tc) (h0 : r ≠ main_v2_0) (h1 : r ≠ main_v2_1) : W2 m c r = V1 m c r := by
  unfold W2
  rw [Function.update_of_ne (StableHlo.devRef_ne_of_ne h1), Function.update_of_ne (StableHlo.devRef_ne_of_ne h0)]
theorem W2_s2 (c : Dev nD) : W2 m c main_v2_0 = (Pass1.dat (E1 m) c).arrAt 5 cfg0.N := by
  unfold W2
  rw [Function.update_of_ne (StableHlo.devRef_ne_of_ne (by decide)), Function.update_self]
theorem W2_adj8 (c : Dev nD) : W2 m c main_v2_1 = (Pass1.dat (E1 m) c).arrAt 6 cfg0.N := by
  unfold W2; rw [Function.update_self]
theorem W3_of (c : Dev nD) (r : Ref sig .tc) (h0 : r ≠ main_v3) : W3 m c r = W2 m c r := by
  unfold W3; rw [Function.update_of_ne (StableHlo.devRef_ne_of_ne h0)]
theorem W3_out (c : Dev nD) : W3 m c main_v3 = (Pass2.dat (E2 m) c).arrAt 3 cfg1.N := by
  unfold W3; rw [Function.update_self]

/-- The two pipelines' proof data. -/
def pdats : (p : Fin 2) → (c : Dev nD) → Dat τ (Elt F) Unit ℕ (UR sig nD τ) ℕ (cfgs p) c
  | 0 => fun c => Pass1.dat (E1 m) c
  | 1 => fun c => Pass2.dat (E2 m) c

/-- No level is assigned: the kernels wait on nothing but their own transfers. -/
def L : GSem nD τ sig → Finset Unit := fun _ => ∅
def lv : GSem nD τ sig → Unit → ℕ := fun _ _ => 0

/-- What rides along: the generator register and nothing owed. -/
def R (c : Dev nD) : sProp 𝕄 := iprop((∃ r, prngReg c r) ∗ ∃ W, owes (c : Thread nD τ) (0 : CellTallies nD τ sig Unit) W)

theorem fin0 (c : Dev nD) : ∀ w : Fin cfg0.W, ((pdats m 0 c).arrAt w cfg0.N) = (fun b : Ref sig .tc => (W2 m c : Valuation τ sig (Elt F)) b) (Pipeline.arrRef spec0 w)
  | ⟨0, _⟩ => ((pdats m 0 c).arrAt_in 0 rfl _).trans (W2_of m c main_arg0 (by decide) (by decide)).symm
  | ⟨1, _⟩ => ((pdats m 0 c).arrAt_in 1 rfl _).trans (W2_of m c main_arg2 (by decide) (by decide)).symm
  | ⟨2, _⟩ => ((pdats m 0 c).arrAt_in 2 rfl _).trans (W2_of m c main_v0 (by decide) (by decide)).symm
  | ⟨3, _⟩ => ((pdats m 0 c).arrAt_in 3 rfl _).trans (W2_of m c main_arg4 (by decide) (by decide)).symm
  | ⟨4, _⟩ => ((pdats m 0 c).arrAt_in 4 rfl _).trans (W2_of m c main_arg1 (by decide) (by decide)).symm
  | ⟨5, _⟩ => (W2_s2 m c).symm
  | ⟨6, _⟩ => (W2_adj8 m c).symm

theorem keep0 (c : Dev nD) (b : Ref sig .tc) (hb : b ∉ Finset.univ.image (Pipeline.arrRef spec0)) : (W2 m c : Valuation τ sig (Elt F)) b = (V1 m c : Valuation τ sig (Elt F)) b :=
  W2_of m c b (fun h => hb (h ▸ Finset.mem_image.mpr ⟨5, Finset.mem_univ _, rfl⟩)) (fun h => hb (h ▸ Finset.mem_image.mpr ⟨6, Finset.mem_univ _, rfl⟩))

set_option backward.isDefEq.respectTransparency.types false in
/-- Region 0: entered holding every unscoped buffer, left holding them with the kernel's outputs replaced. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Pass1.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [show (E1 m c) = (fun b : Ref sig .tc => (V1 m c : Valuation τ sig (Elt F)) b) from rfl, Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pass1.inv (E1 m) c 0 from rfl]
    iintro ⟨Hp, -, Hr⟩
    iapply (Pass1.inv_zero (E1 m) c)
    isplitl [Hp]; · iexact Hp
    iexact Hr
  hout c := by
    rw [Pipeline.ownSems0_none, show (pdats m 0 c).Φ (Fin.last _) = Pass1.inv (E1 m) c cfg0.N from rfl]
    iintro H
    ihave H' := (Pass1.inv_last (E1 m) c _) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b : Ref sig .tc => (W2 m c : Valuation τ sig (Elt F)) b) ((pdats m 0 c).arrAt · cfg0.N) (fin0 m c) (keep0 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem fin1 (c : Dev nD) : ∀ w : Fin cfg1.W, ((pdats m 1 c).arrAt w cfg1.N) = (fun b : Ref sig .tc => (W3 m c : Valuation τ sig (Elt F)) b) (Pipeline.arrRef spec1 w)
  | ⟨0, _⟩ => ((pdats m 1 c).arrAt_in 0 rfl _).trans (W3_of m c main_v2_1 (by decide)).symm
  | ⟨1, _⟩ => ((pdats m 1 c).arrAt_in 1 rfl _).trans (W3_of m c main_v2_0 (by decide)).symm
  | ⟨2, _⟩ => ((pdats m 1 c).arrAt_in 2 rfl _).trans (W3_of m c main_v1 (by decide)).symm
  | ⟨3, _⟩ => (W3_out m c).symm

theorem keep1 (c : Dev nD) (b : Ref sig .tc) (hb : b ∉ Finset.univ.image (Pipeline.arrRef spec1)) : (W3 m c : Valuation τ sig (Elt F)) b = (W2 m c : Valuation τ sig (Elt F)) b :=
  W3_of m c b (fun h => hb (h ▸ Finset.mem_image.mpr ⟨3, Finset.mem_univ _, rfl⟩))

set_option backward.isDefEq.respectTransparency.types false in
/-- Region 1: entered holding every unscoped buffer, left holding them with the kernel's outputs replaced. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Pass2.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [show (E2 m c) = (fun b : Ref sig .tc => (W2 m c : Valuation τ sig (Elt F)) b) from rfl, Pipeline.unscopedBufs_held] at hsplit
    unfold R
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pass2.inv (E2 m) c 0 from rfl]
    iintro ⟨Hp, -, Hr⟩
    iapply (Pass2.inv_zero (E2 m) c)
    isplitl [Hp]; · iexact Hp
    iexact Hr
  hout c := by
    rw [Pipeline.ownSems0_none, show (pdats m 1 c).Φ (Fin.last _) = Pass2.inv (E2 m) c cfg1.N from rfl]
    iintro H
    ihave H' := (Pass2.inv_last (E2 m) c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b : Ref sig .tc => (W3 m c : Valuation τ sig (Elt F)) b) ((pdats m 1 c).arrAt · cfg1.N) (fin1 m c) (keep1 m c)
    rw [Pipeline.unscopedBufs_held] at hjoin
    unfold R
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's items: the host's reshapes and the two kernels. -/
abbrev items : List (Seg (pcfgs (F := F)) adm (pdats m) () defs₀ Variants.none L lv) :=
  [.host (seg0 m Variants.none L lv fun _ => R), .region (reg0 m), .region (reg1 m)]

theorem main_run (c : Dev nD) : main (F := F) c = Pipeline.Seg.run (items m) := (main_chain c).trans (by chain_rfl)

theorem last_state (c : Dev nD) : iprop(StableHlo.held (c : Thread nD τ) (Pipeline.ucRefs τ sig) (W3 m c) ∗ R c)
    ⊢ (iprop((StableHlo.held (c : Thread nD τ) (Pipeline.ucRefs τ sig) (W3 m c) ∗ (∃ r, prngReg c r)) ∗ ∃ W, owes (c : Thread nD τ) (0 : CellTallies nD τ sig Unit) W) : sProp 𝕄) := by
  unfold R
  iintro ⟨Hh, Hp, HO⟩
  isplitl [Hh Hp]
  · isplitl [Hh]; · iexact Hh
    iexact Hp
  iexact HO

variable (ρ : Dev nD → PrngReg)

set_option backward.isDefEq.respectTransparency.types false in
/-- Every weakly fair run of @main ends with every unscoped buffer at `W3` and every semaphore counter at zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = W3 m c b) ∧ r.2.sem = fun _ => 0) :=
  Pipeline.θ_run_regions_kit_sems (pcfgs (F := F)) adm (pdats m) () cellOf_inj emb₁ defs₀ Variants.none L lv m ρ main (items m)
    (fun c Q => by rw [main_run m c]) (by simp only [items, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W3 m c) ∗ (∃ r, prngReg c r)))
    (hch := ⟨fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      unfold R
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W3 m c b)
    (hfin := fun c s' => by
      iintro ⟨⟨Hh, -⟩, HSI⟩
      unfold StableHlo.held
      imodintro
      iapply (pointsTo_read_all (Pipeline.ucRefs τ sig) (fun b => ((c : Thread nD τ).1, b)) (W3 m c) s')
      isplitl [Hh] <;> iassumption)
    (hQ := fun s h hz => ⟨h, funext fun g => hz g (.inr (regions_no_unscoped g.2))⟩)

theorem mem_uc (r : Ref sig .tc) (h : ¬ r.isScoped) : Proc.devRef (τ := τ) .tc r ∈ Pipeline.ucRefs τ sig :=
  Finset.mem_filter.mpr ⟨StableHlo.devRef_mem_tcRefs _, by simpa using h⟩

end Cert.Proof.Whole

end
-- ==== Proof.Frames.lean ====
/- The runs as the claims state them: every argument unchanged, every semaphore at zero, the result as the second kernel leaves it. -/
module

public import proofs.«01_k».proof.Defs
public import proofs.«01_k».proof.Proof.Whole
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Cert.KernelIdeal Cert.KernelIdeal.Gen
open Idealize.ShloMosaic Idealize.ShloMosaic.TcCoe Idealize.SL.Sem

/-- The side conditions of the precondition's operations. -/
instance preFacts : Cert.Pre_sums_exact.Facts where
  bcast_S16_S1x16_1 := by decide
  bcast_S1x16_S10000x16_0_1 := by decide
  bcast_S_S10000x16 := by decide
  bcast_S_S10000x10000 := by decide
  natLt_8_32 := by decide
  reducesTo_S10000x16_S16_d0 := by decide
  h_S_ := by decide
  bcast_S_S1x16 := by decide
  concatenates_S10000x16_S10000x16_S10000x32_d1 := by decide
  bcast_S_S10000x32 := by decide
  dot_S10000x128_S128x16_S10000x16_1_0_0_1_n_n_wf := by decide
  dot_S10000x10000_S10000x16_S10000x16_1_0_0_1_n_n_wf := by decide
  dot_S10000x16_S16x16_S10000x16_1_0_0_1_n_n_wf := by decide
  dot_S10000x10000_S10000x32_S10000x32_1_0_0_1_n_n_wf := by decide

variable {F : FTy → Type} [FloatOps F]
variable (m : (ℓ : Loc nD τ sig) → Buf (Elt F) ℓ)

/-- A buffer no step writes ends as it began. -/
theorem W3_arg (c : Dev nD) (r : Ref sig .tc) (h0 : r ≠ main_v3) (h1 : r ≠ main_v2_0) (h2 : r ≠ main_v2_1)
    (h3 : Whole.E1 m c r = m ((c : Thread nD τ).loc r)) : Whole.W3 m c r = m ((c : Thread nD τ).loc r) :=
  (Whole.W3_of m c r h0).trans ((Whole.W2_of m c r h1 h2).trans h3)

/-- The program's run: the result is the last kernel's output, the arguments are unchanged, every semaphore ends at zero. -/
theorem run_kernel (ρ : Dev nD → PrngReg) : θ_run defs (onTc (τ := τ) (main (F := F))) ⟨m, fun _ => 0, ρ⟩
    (fun r => (∀ c : Dev nD, r.2.mem ((c.tc : Thread nD τ).loc main_v3) = (Pass2.dat (Whole.E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c =>
    ⟨(h.1 c _ (Whole.mem_uc main_v3 (by decide))).trans (Whole.W3_out m c),
      (h.1 c _ (Whole.mem_uc main_arg0 (by decide))).trans (W3_arg m c main_arg0 (by decide) (by decide) (by decide) (V1_of m c main_arg0 (by decide))),
      (h.1 c _ (Whole.mem_uc main_arg1 (by decide))).trans (W3_arg m c main_arg1 (by decide) (by decide) (by decide) (V1_of m c main_arg1 (by decide))),
      (h.1 c _ (Whole.mem_uc main_arg2 (by decide))).trans (W3_arg m c main_arg2 (by decide) (by decide) (by decide) (V1_of m c main_arg2 (by decide))),
      (h.1 c _ (Whole.mem_uc main_arg3 (by decide))).trans (W3_arg m c main_arg3 (by decide) (by decide) (by decide) (V1_of m c main_arg3 (by decide))),
      (h.1 c _ (Whole.mem_uc main_arg4 (by decide))).trans (W3_arg m c main_arg4 (by decide) (by decide) (by decide) (V1_of m c main_arg4 (by decide))),
      (h.1 c _ (Whole.mem_uc main_arg5 (by decide))).trans (W3_arg m c main_arg5 (by decide) (by decide) (by decide) (V1_of m c main_arg5 (by decide)))⟩, h.2⟩)
    (Whole.run_main m ρ)

/-- Both programs are one text: their bodies are equal, label by label. -/
theorem defs₀_same : Cert.Kernel.defs₀ (F := Bits) = Cert.KernelIdeal.defs₀ (F := Bits) := by
  unfold Cert.Kernel.defs₀ Cert.KernelIdeal.defs₀
  refine congrArg Defs.onTc (funext fun p => ?_)
  match p with
  | 0 => funext ⟨t, s⟩; rfl
  | 1 => funext ⟨t, s⟩; rfl
theorem defs_same : Cert.Kernel.defs (F := Bits) = Cert.KernelIdeal.defs (F := Bits) :=
  congrArg (Pipeline.defs Cert.KernelIdeal.pcfgs) defs₀_same

theorem frame_kernel : Cert.quiescent_Kernel := by
  intro m ρ _
  rw [defs_same]
  exact (θ_run Cert.KernelIdeal.defs _ _).mono (fun _ h => ⟨fun c => (h.1 c).2, h.2⟩) (run_kernel (F := Bits) m ρ)

theorem frame_ideal : Cert.quiescent_KernelIdeal := fun m ρ _ =>
  (θ_run Cert.KernelIdeal.defs _ _).mono (fun _ h => ⟨fun c => (h.1 c).2, h.2⟩) (run_kernel (F := Ideal) m ρ)

theorem frame_ideal_pre : Cert.quiescent_KernelIdeal_pre_sums_exact := fun m ρ _ =>
  (θ_run Cert.KernelIdeal.defs _ _).mono (fun _ h => ⟨fun c => (h.1 c).2, h.2⟩) (run_kernel (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_sums_exact := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefValue.lean ====
/- The reference's result, entry by entry: the quantiser and the products written as sums. -/
module

public import proofs.«01_k».proof.Proof.Arith
public import proofs.«01_k».proof.Proof.Frames
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof.Ref

open Cert.ReferenceIdeal Cert.ReferenceIdeal.Gen Cert.ReferenceIdeal.Facts
open Idealize.ShloMosaic Idealize.ShloMosaic.TcCoe

/-- The second layer's input, one entry: the first layer's rows through the rectifier and the second weights. -/
def s2At (x : FVec Ideal S10000x128 .f32) (adj : FVec Ideal S10000x10000 .f32) (W1 : FVec Ideal S128x16 .f32) (b1 : FVec Ideal S16 .f32)
    (W2 : FVec Ideal S16x16 .f32) (j : Fin 10000) (k : Fin 16) : EReal :=
  ∑ l : Fin 16, max (∑ i : Fin 10000, adj (ix2 j i) * (∑ d : Fin 128, x (ix2 i d) * W1 (ix2 d l)) + b1 (ix1 l)) 0 * W2 (ix2 l k)
/-- A column's scale: its largest magnitude, kept off zero. -/
def scaleAt (S : Fin 10000 → Fin 16 → EReal) (k : Fin 16) : EReal :=
  max (Finset.univ.fold max (Ideal.ofBits .f32 0xFF800000#32) fun j => max (S j k) (-S j k)) (Ideal.ofBits .f32 0x0DA24260#32)
/-- An adjacency entry's int8 code. -/
def codeAt (a : EReal) : BitVec 8 := BitVec.setWidth 8 (IntOp.subi (Ideal.fptosi 32 (a * Ideal.ofBits .f32 0x437F0000#32)) 128#32)
/-- The result's entry. -/
def outAt (adj : FVec Ideal S10000x10000 .f32) (S : Fin 10000 → Fin 16 → EReal) (b2 : FVec Ideal S16 .f32) (i : Fin 10000) (k : Fin 16) : EReal :=
  (∑ j : Fin 10000, (((codeAt (adj (ix2 i j))).toInt : ℝ) : EReal) * (Arith.q (S j k) (scaleAt S k) * (scaleAt S k * Ideal.ofBits .f32 0x38810204#32)))
      * Ideal.ofBits .f32 0x3B808081#32
    + Ideal.ofBits .f32 0x3F010101#32 * (∑ j : Fin 10000, S j k) + b2 (ix1 k)

/-! ### The reference's term in three named parts -/

def refS2 (x : FVec Ideal S10000x128 .f32) (adj : FVec Ideal S10000x10000 .f32) (W1 : FVec Ideal S128x16 .f32) (b1 : FVec Ideal S16 .f32)
    (W2 : FVec Ideal S16x16 .f32) : FVec Ideal S10000x16 .f32 :=
  (Host.dotGeneral dot_S10000x16_S16x16_S10000x16_1_0_0_1_n_n none (maximumf (addf (Host.dotGeneral dot_S10000x10000_S10000x16_S10000x16_1_0_0_1_n_n none adj (Host.dotGeneral dot_S10000x128_S128x16_S10000x16_1_0_0_1_n_n none x W1)) (broadcastInDim S10000x16 ![0, 1] bcast_S1x16_S10000x16_0_1 (broadcastInDim S1x16 ![1] bcast_S16_S1x16_1 b1))) (broadcastInDim S10000x16 ![] bcast_S_S10000x16 (constant S_ .f32 0x00000000#32))) W2)
def refScale (s : FVec Ideal S10000x16 .f32) : FVec Ideal S1x16 .f32 :=
  (maximumf (broadcastInDim S1x16 ![1] bcast_S16_S1x16_1 (Host.reduce FloatOps.maximumf (Host.absf s) (constant S_ .f32 0xFF800000#32) reducesTo_S10000x16_S16_d0 h_S_)) (broadcastInDim S1x16 ![] bcast_S_S1x16 (constant S_ .f32 0x0DA24260#32)))
def refCode (adj : FVec Ideal S10000x10000 .f32) : IVec S10000x10000 8 :=
  (trunci 8 (subi (fptosi 32 (mulf adj (broadcastInDim S10000x10000 ![] bcast_S_S10000x10000 (constant S_ .f32 0x437F0000#32)))) (broadcastInDim S10000x10000 ![] bcast_S_S10000x10000 (constantI S_ 32 128#32))) natLt_8_32)
def refOut (adj : FVec Ideal S10000x10000 .f32) (s : FVec Ideal S10000x16 .f32) (b2 : FVec Ideal S16 .f32) : FVec Ideal S10000x16 .f32 :=
  addf (addf (mulf (Host.dotGeneral dot_S10000x10000_S10000x16_S10000x16_1_0_0_1_n_n none (sitofp .f32 (extsi 32 (refCode adj) natLt_8_32)) (mulf (Host.roundeven (mulf s (broadcastInDim S10000x16 ![0, 1] bcast_S1x16_S10000x16_0_1 (Host.divf (broadcastInDim S1x16 ![] bcast_S_S1x16 (constant S_ .f32 0x467E0000#32)) (refScale s))))) (broadcastInDim S10000x16 ![0, 1] bcast_S1x16_S10000x16_0_1 (mulf (refScale s) (broadcastInDim S1x16 ![] bcast_S_S1x16 (constant S_ .f32 0x38810204#32)))))) (broadcastInDim S10000x16 ![] bcast_S_S10000x16 (constant S_ .f32 0x3B808081#32))) (broadcastInDim S10000x16 ![0, 1] bcast_S1x16_S10000x16_0_1 (mulf (broadcastInDim S1x16 ![] bcast_S_S1x16 (constant S_ .f32 0x3F010101#32)) (broadcastInDim S1x16 ![1] bcast_S16_S1x16_1 (Host.reduceAdd s (constant S_ .f32 0x00000000#32) reducesTo_S10000x16_S16_d0 h_S_))))) (broadcastInDim S10000x16 ![0, 1] bcast_S1x16_S10000x16_0_1 (broadcastInDim S1x16 ![1] bcast_S16_S1x16_1 b2))

theorem res_eq (m : (ℓ : Loc nD τ sig) → Buf (Elt Ideal) ℓ) (c : Dev nD) : Cert.ReferenceIdeal.Value.res_main_v41 m c
    = refOut (m ((c.tc : Thread nD τ).loc main_arg1)) (refS2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg5)) := rfl

theorem refS2_at (x : FVec Ideal S10000x128 .f32) (adj : FVec Ideal S10000x10000 .f32) (W1 : FVec Ideal S128x16 .f32) (b1 : FVec Ideal S16 .f32)
    (W2 : FVec Ideal S16x16 .f32) (j : Fin 10000) (k : Fin 16) : refS2 x adj W1 b1 W2 (ix2 j k) = s2At x adj W1 b1 W2 j k := by
  pointwise [refS2, s2At]
theorem refScale_at (s : FVec Ideal S10000x16 .f32) (k : Fin 16) : refScale s (ix2 (0 : Fin 1) k) = scaleAt (fun j k => s (ix2 j k)) k := by
  pointwise [refScale, scaleAt]
  rfl
theorem refCode_at (adj : FVec Ideal S10000x10000 .f32) (i j : Fin 10000) : refCode adj (ix2 i j) = codeAt (adj (ix2 i j)) := by
  pointwise [refCode, codeAt]
  rfl
/-- A code read as a float is its integer. -/
theorem code_float (b : BitVec 8) : (FloatOps.sitofp .f32 (BitVec.signExtend 32 b) : Ideal .f32) = ((b.toInt : ℝ) : EReal) := by
  show (((BitVec.signExtend 32 b).toInt : ℝ) : EReal) = _
  rw [BitVec.toInt_signExtend_of_le (by norm_num)]
theorem refOut_at (adj : FVec Ideal S10000x10000 .f32) (s : FVec Ideal S10000x16 .f32) (b2 : FVec Ideal S16 .f32) (i : Fin 10000) (k : Fin 16) :
    refOut adj s b2 (ix2 i k) = outAt adj (fun j k => s (ix2 j k)) b2 i k := by
  pointwise [refOut, outAt]
  rw [refScale_at]
  simp only [code_float, refCode_at]
  rfl

/-! ### What the precondition says -/

theorem pre_eq (x : FVec Ideal S10000x128 .f32) (adj : FVec Ideal S10000x10000 .f32) (W1 : FVec Ideal S128x16 .f32) (b1 : FVec Ideal S16 .f32)
    (W2 : FVec Ideal S16x16 .f32) (b2 : FVec Ideal S16 .f32) : Cert.Pre_sums_exact.fn (F := Ideal) x adj W1 b1 W2 b2
    = Cert.Pre_sums_exact.fn_part1 (F := Ideal) (refS2 x adj W1 b1 W2) (refCode adj) (refScale (refS2 x adj W1 b1 W2)) := rfl

theorem ofBool_eq_one {b : Bool} (h : BitVec.ofBool b = 1) : b = true := by
  cases b
  · exact absurd h (by decide)
  · rfl

/-- On the high digits' columns. -/
theorem pre_hi (s : FVec Ideal S10000x16 .f32) (adj : FVec Ideal S10000x10000 .f32) (i : Fin 10000) (k : Fin 16)
    (h : Cert.Pre_sums_exact.fn_part1 (F := Ideal) s (refCode adj) (refScale s) (ix2 i (⟨k.val, by omega⟩ : Fin 32)) = 1) :
    ∑ j : Fin 10000, max (((codeAt (adj (ix2 i j))).toInt : ℝ) : EReal) (-(((codeAt (adj (ix2 i j))).toInt : ℝ) : EReal))
      * max (Arith.hi (s (ix2 j k)) (scaleAt (fun j k => s (ix2 j k)) k)) (-Arith.hi (s (ix2 j k)) (scaleAt (fun j k => s (ix2 j k)) k))
      ≤ Ideal.ofBits .f32 0x4C800000#32 := by
  pointwise [Cert.Pre_sums_exact.fn_part1, Cert.Pre_sums_exact.fn_round] at h
  rw [refScale_at] at h
  simp only [code_float, refCode_at] at h
  exact of_decide_eq_true (ofBool_eq_one h)

/-- On the low digits' columns. -/
theorem pre_lo (s : FVec Ideal S10000x16 .f32) (adj : FVec Ideal S10000x10000 .f32) (i : Fin 10000) (k : Fin 16)
    (h : Cert.Pre_sums_exact.fn_part1 (F := Ideal) s (refCode adj) (refScale s) (ix2 i (⟨16 + k.val, by omega⟩ : Fin 32)) = 1) :
    ∑ j : Fin 10000, max (((codeAt (adj (ix2 i j))).toInt : ℝ) : EReal) (-(((codeAt (adj (ix2 i j))).toInt : ℝ) : EReal))
      * max (Arith.lo (s (ix2 j k)) (scaleAt (fun j k => s (ix2 j k)) k)) (-Arith.lo (s (ix2 j k)) (scaleAt (fun j k => s (ix2 j k)) k))
      ≤ Ideal.ofBits .f32 0x4C800000#32 := by
  pointwise [Cert.Pre_sums_exact.fn_part1, Cert.Pre_sums_exact.fn_round] at h
  rw [refScale_at] at h
  simp only [code_float, refCode_at] at h
  exact of_decide_eq_true (ofBool_eq_one h)

end Cert.Proof.Ref

end
-- ==== Proof.Pay.lean ====
/- What each body computes from its blocks, entry by entry, over the extended reals. -/
module

public import proofs.«01_k».proof.Proof.RefValue
public import proofs.«01_k».proof.Proof.Body1
public import Idealize.ShloMosaic.Lib.Pointwise
public import Idealize.ShloMosaic.Lib.IntMxu

@[expose] public section

set_option maxRecDepth 16384

noncomputable section

namespace Cert.Proof.Pay

open Cert.KernelIdeal Cert.KernelIdeal.Gen
open Cert.Proof.Ref (scaleAt codeAt)
open Idealize.ShloMosaic Idealize.ShloMosaic.TcCoe

/-! ### The first kernel's blocks -/

theorem pay1_at (x : FVec Ideal S10000x128 .f32) (w : FVec Ideal S128x16 .f32) (j : Fin 10000) (k : Fin 16) :
    k0_pay1 (F := Ideal) x w (ix2 j k) = ∑ d : Fin 128, x (ix2 j d) * w (ix2 d k) := by
  pointwise [k0_pay1]
theorem pay2_at (a : FVec Ideal S400x10000 .f32) (s : FVec Ideal S10000x16 .f32) (b : FVec Ideal S1x16 .f32) (w : FVec Ideal S16x16 .f32) (r : Fin 400) (k : Fin 16) :
    k0_pay2 (F := Ideal) a s b w (ix2 r k)
    = ∑ l : Fin 16, max (∑ i : Fin 10000, a (ix2 r i) * s (ix2 i l) + b (ix2 (0 : Fin 1) l)) 0 * w (ix2 l k) := by
  pointwise [k0_pay2]
theorem pay3_at (a : FVec Ideal S400x10000 .f32) (z : Fin 1) (r : Fin 400) (j : Fin 10000) :
    k0_pay3 (F := Ideal) a (ix3 z r j) = codeAt (a (ix2 r j)) := by
  obtain rfl : z = 0 := Subsingleton.elim _ _
  pointwise [k0_pay3, codeAt]
  rfl

/-! ### The second kernel's quantiser -/

theorem scale_at (s : FVec Ideal S10000x16 .f32) (k : Fin 16) : k1_pay3 (F := Ideal) s (ix2 (0 : Fin 1) k) = scaleAt (fun j k => s (ix2 j k)) k := by
  pointwise [k1_pay3, k1_pay2, scaleAt]
  rfl
theorem scaleRow_at (s : FVec Ideal S10000x16 .f32) (k : Fin 16) : k1_pay5 (F := Ideal) s (ix2 (0 : Fin 1) k) = scaleAt (fun j k => s (ix2 j k)) k := by
  rw [← scale_at]
  pointwise [k1_pay5]
theorem sumRow_at (s : FVec Ideal S10000x16 .f32) (k : Fin 16) : k1_pay6 (F := Ideal) s (ix2 (0 : Fin 1) k) = ∑ j : Fin 10000, s (ix2 j k) := by
  pointwise [k1_pay6, k1_pay2]
theorem packed_hi (s : FVec Ideal S10000x16 .f32) (j : Fin 10000) (k : Fin 16) :
    k1_pay4 (F := Ideal) s (ix2 j (⟨k.val, by omega⟩ : Fin 32)) = Ideal.fptosi 8 (Arith.hi (s (ix2 j k)) (scaleAt (fun j k => s (ix2 j k)) k)) := by
  pointwise [k1_pay4, k1_pay2]
  rw [scale_at]
  rfl
theorem packed_lo (s : FVec Ideal S10000x16 .f32) (j : Fin 10000) (k : Fin 16) :
    k1_pay4 (F := Ideal) s (ix2 j (⟨16 + k.val, by omega⟩ : Fin 32)) = Ideal.fptosi 8 (Arith.lo (s (ix2 j k)) (scaleAt (fun j k => s (ix2 j k)) k)) := by
  pointwise [k1_pay4, k1_pay2]
  rw [scale_at]
  rfl

/-! ### The second kernel's product -/

abbrev dd : DotDims S400x10000 S10000x32 S400x32 := dot_S400x10000_S10000x32_S400x32_1_0_0_1_n_n

theorem dd_contracting : dd.lhsContracting = [1] := rfl
theorem dd_size : S400x10000.size 1 = 10000 := rfl
theorem lhs_ix (r : Fin 400) (c : Fin 32) (k : Fin 10000) : dd.lhsIdx (ix2 r c) (dd.contrIdx₁ dd_contracting dd_size k) = ix2 r k := by
  funext a; fin_cases a <;> rfl
theorem rhs_ix (r : Fin 400) (c : Fin 32) (k : Fin 10000) : dd.rhsIdx (ix2 r c) (dd.contrIdx₁ dd_contracting dd_size k) = ix2 k c := by
  funext a; fin_cases a <;> rfl
theorem dot_at (a : IVec S400x10000 8) (w : IVec S10000x32 8) (r : Fin 400) (c : Fin 32) :
    dotI8 dd a w (ix2 r c) = ∑ j : Fin 10000, (a (ix2 r j)).toInt * (w (ix2 j c)).toInt := by
  unfold dotI8
  rw [dd.sum_contr₁ dd_contracting dd_size]
  exact Finset.sum_congr rfl fun k _ => by rw [lhs_ix, rhs_ix]
theorem absDot_at (a : IVec S400x10000 8) (w : IVec S10000x32 8) (r : Fin 400) (c : Fin 32) :
    absDotI8 dd a w (ix2 r c) = ∑ j : Fin 10000, ((a (ix2 r j)).toInt * (w (ix2 j c)).toInt).natAbs := by
  unfold absDotI8
  rw [dd.sum_contr₁ dd_contracting dd_size]
  exact Finset.sum_congr rfl fun k _ => by rw [lhs_ix, rhs_ix]

/-- One of the block's five slabs. -/
def slab (x : IVec S5x400x10000 8) (p : Fin 5) : IVec S400x10000 8 := fun y => x (ix3 p (y 0) (y 1))
/-- A slab's integer product with the packed digits, as a float. -/
def prod (x : IVec S5x400x10000 8) (w : IVec S10000x32 8) (p : Fin 5) : FVec Ideal S400x32 .f32 :=
  sitofp .f32 (matmulI8 IntMxuNumerics.v5e dd (slab x p) w (constantI S400x32 32 0#32))

theorem slab_cast0 (x : IVec S5x400x10000 8) : shapeCast S400x10000 (Pass2.slab0 (F := Ideal) x) shapeCasts_S1x400x10000_S400x10000 = slab x 0 := by
  funext y; idx_vars y; pointwise [slab, Pass2.slab0]
theorem slab_cast1 (x : IVec S5x400x10000 8) : shapeCast S400x10000 (Pass2.slab1 (F := Ideal) x) shapeCasts_S1x400x10000_S400x10000 = slab x 1 := by
  funext y; idx_vars y; pointwise [slab, Pass2.slab1]
theorem slab_cast2 (x : IVec S5x400x10000 8) : shapeCast S400x10000 (Pass2.slab2 (F := Ideal) x) shapeCasts_S1x400x10000_S400x10000 = slab x 2 := by
  funext y; idx_vars y; pointwise [slab, Pass2.slab2]
theorem slab_cast3 (x : IVec S5x400x10000 8) : shapeCast S400x10000 (Pass2.slab3 (F := Ideal) x) shapeCasts_S1x400x10000_S400x10000 = slab x 3 := by
  funext y; idx_vars y; pointwise [slab, Pass2.slab3]
theorem slab_cast4 (x : IVec S5x400x10000 8) : shapeCast S400x10000 (Pass2.slab4 (F := Ideal) x) shapeCasts_S1x400x10000_S400x10000 = slab x 4 := by
  funext y; idx_vars y; pointwise [slab, Pass2.slab4]

theorem out_eq (x : IVec S5x400x10000 8) (w : IVec S10000x32 8) (a b d : FVec Ideal S1x16 .f32) : Pass2.out (F := Ideal) x w a b d
    = k1_pay1 (F := Ideal) (prod x w 0) (prod x w 1) (prod x w 2) (prod x w 3) (slab x 4) w (constantI S400x32 32 0#32) a b d := by
  unfold Pass2.out k1_pay7 k1_pay8 k1_pay9 k1_pay10 k1_pay11
  rw [slab_cast0, slab_cast1, slab_cast2, slab_cast3, slab_cast4]
  rfl

/-- The block's row `400 p + r`: slab `p`'s row `r`. -/
theorem out_at (x : IVec S5x400x10000 8) (w : IVec S10000x32 8) (a b d : FVec Ideal S1x16 .f32) (p : Fin 5) (r : Fin 400) (k : Fin 16) :
    Pass2.out (F := Ideal) x w a b d (ix2 (⟨400 * p.val + r.val, by omega⟩ : Fin 2000) k)
    = (prod x w p (ix2 r (⟨k.val, by omega⟩ : Fin 32)) * Ideal.ofBits .f32 0x43000000#32 + prod x w p (ix2 r (⟨16 + k.val, by omega⟩ : Fin 32)))
          * (a (ix2 (0 : Fin 1) k) * Ideal.ofBits .f32 0x38810204#32) * Ideal.ofBits .f32 0x3B808081#32
        + Ideal.ofBits .f32 0x3F010101#32 * b (ix2 (0 : Fin 1) k) + d (ix2 (0 : Fin 1) k) := by
  rw [out_eq]
  have hp : p = 0 ∨ p = 1 ∨ p = 2 ∨ p = 3 ∨ p = 4 := by omega
  have a0 : 400 + r.val - 400 = r.val := by omega
  have a1 : 800 + r.val - 400 = 400 + r.val := by omega
  have a2 : 1200 + r.val - 400 = 800 + r.val := by omega
  have a3 : 1600 + r.val - 400 = 1200 + r.val := by omega
  have n1 : ¬ 400 + r.val < 400 := by omega
  have n2 : ¬ 800 + r.val < 400 := by omega
  have n3 : ¬ 1200 + r.val < 400 := by omega
  have n4 : ¬ 1600 + r.val < 400 := by omega
  obtain rfl | rfl | rfl | rfl | rfl := hp
  all_goals
    pointwise [k1_pay1]
    try simp only [a0, a1, a2, a3, n1, n2, n3, n4, r.isLt, ↓reduceDIte]
    try rfl

end Cert.Proof.Pay

end
-- ==== Proof.Entry.lean ====
/- One entry of the second kernel's block is the reference's entry. -/
module

public import proofs.«01_k».proof.Proof.Pay

@[expose] public section

set_option maxRecDepth 16384

noncomputable section

namespace Cert.Proof.Entry

open Cert.KernelIdeal Cert.KernelIdeal.Gen
open Cert.Proof.Ref (scaleAt codeAt outAt)
open Cert.Proof.Pay
open Idealize.ShloMosaic Idealize.ShloMosaic.TcCoe

theorem scale_pos (S : Fin 10000 → Fin 16 → EReal) (k : Fin 16) : 0 < scaleAt S k := lt_max_of_lt_right Arith.ctiny
theorem le_scale (S : Fin 10000 → Fin 16 → EReal) (j : Fin 10000) (k : Fin 16) : max (S j k) (-S j k) ≤ scaleAt S k :=
  le_max_of_le_left ((Finset.le_fold_max _).mpr (Or.inr ⟨j, Finset.mem_univ _, le_rfl⟩))

/-- A slab's product with a column of digits, given the bound on the sum of the products' magnitudes: the sum of the products. -/
theorem prod_at (x : IVec S5x400x10000 8) (w : IVec S10000x32 8) (p : Fin 5) (r : Fin 400) (c : Fin 32) (code : Fin 10000 → BitVec 8)
    (hx : ∀ j, x (ix3 p r j) = code j) (D : Fin 10000 → EReal) (h : Fin 10000 → ℤ) (hD : ∀ j, D j = ((h j : ℝ) : EReal))
    (hw : ∀ j, w (ix2 j c) = Ideal.fptosi 8 (D j)) (hh : ∀ j, |h j| ≤ 127)
    (hb : ∑ j, max (((code j).toInt : ℝ) : EReal) (-(((code j).toInt : ℝ) : EReal)) * max (D j) (-D j) ≤ Ideal.ofBits .f32 0x4C800000#32) :
    prod x w p (ix2 r c) = (((∑ j, (code j).toInt * (Ideal.fptosi 8 (D j)).toInt : ℤ) : ℝ) : EReal) := by
  have hs : ∀ j, slab x p (ix2 r j) = code j := hx
  have hbound : absDotI8 dd (slab x p) w (ix2 r c) ≤ IntMxuNumerics.v5e.exactUpTo := by
    rw [absDot_at]
    simp only [hs, hw, hD, Arith.fptosi8 _ (hh _)]
    exact Arith.abs_row (fun j => (code j).toInt) D h hD hb
  show (((matmulI8 IntMxuNumerics.v5e dd (slab x p) w (constantI S400x32 32 0#32) (ix2 r c)).toInt : ℝ) : EReal) = _
  rw [matmulI8_toInt IntMxuNumerics.v5e dd (slab x p) w _ _ rfl hbound, dot_at]
  simp only [hs, hw]

/-- The block's entry. -/
theorem out_entry (adj : FVec Ideal S10000x10000 .f32) (s : FVec Ideal S10000x16 .f32) (b2 : FVec Ideal S16 .f32)
    (x : IVec S5x400x10000 8) (d : FVec Ideal S1x16 .f32) (p : Fin 5) (r : Fin 400) (i : Fin 10000) (k : Fin 16)
    (hx : ∀ j, x (ix3 p r j) = codeAt (adj (ix2 i j))) (hd : d (ix2 (0 : Fin 1) k) = b2 (ix1 k))
    (hpre : ∀ c : Fin 32, Cert.Pre_sums_exact.fn_part1 (F := Ideal) s (Ref.refCode adj) (Ref.refScale s) (ix2 i c) = 1) :
    Pass2.out (F := Ideal) x (k1_pay4 (F := Ideal) s) (k1_pay5 (F := Ideal) s) (k1_pay6 (F := Ideal) s) d (ix2 (⟨400 * p.val + r.val, by omega⟩ : Fin 2000) k)
    = outAt adj (fun j k => s (ix2 j k)) b2 i k := by
  have hm := scale_pos (fun j k => s (ix2 j k)) k
  have hs := fun j => le_scale (fun j k => s (ix2 j k)) j k
  choose n hq hn hz using fun j => Arith.q_int (s (ix2 j k)) _ hm (hs j)
  choose h l eh el bh bl enl using fun j => Arith.digits (s (ix2 j k)) _ (n j) (hq j) (hn j)
  rw [out_at, scaleRow_at, sumRow_at, hd,
    prod_at x (k1_pay4 (F := Ideal) s) p r _ (fun j => codeAt (adj (ix2 i j))) hx _ h eh (fun j => packed_hi s j k) bh (Ref.pre_hi s adj i k (hpre _)),
    prod_at x (k1_pay4 (F := Ideal) s) p r _ (fun j => codeAt (adj (ix2 i j))) hx _ l el (fun j => packed_lo s j k) (fun j => (bl j).trans (by norm_num))
      (Ref.pre_lo s adj i k (hpre _)),
    Arith.row_eq (fun j => (codeAt (adj (ix2 i j))).toInt) (fun j => s (ix2 j k)) _ _ Arith.cstep hm hs]
  rfl

end Cert.Proof.Entry

end
-- ==== Proof.Arrays.lean ====
/- What the two kernels leave in their arrays, as whole arrays: the second layer's input, the adjacency codes, the result. -/
module

public import proofs.«01_k».proof.Proof.Entry
public import proofs.«01_k».proof.Proof.Frames
public import proofs.«01_k».proof.Proof.Gen.KernelIdeal.Points
public import Idealize.ShloMosaic.Lib.Pipeline.ValueKit

@[expose] public section

set_option maxRecDepth 16384

noncomputable section

namespace Cert.Proof.Whole

open Cert.KernelIdeal Cert.KernelIdeal.Gen
open Cert.Proof.Ref (scaleAt codeAt outAt refS2)
open Idealize.ShloMosaic Idealize.ShloMosaic.TcCoe
open Idealize.ShloMosaic.Pipeline (Dat)

/-! ### The first kernel -/

section
variable (V : (c : Dev nD) → (b : Ref sig .tc) → Buf (Elt Ideal) ((c : Thread nD τ).loc b)) (c : Dev nD) (t : Fin cfg0.N)

theorem ix0_0 : ∀ t : Fin cfg0.N, win0_0.index t = ![0, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, 0] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![t.val, 0] := (by decide +kernel : ∀ t : Fin grid0.N, _)
theorem ix0_5 : ∀ t : Fin cfg0.N, win0_5.index t = ![t.val, 0] := (by decide +kernel : ∀ t : Fin grid0.N, _)
theorem ix0_6 : ∀ t : Fin cfg0.N, win0_6.index t = ![t.val, 0, 0] := (by decide +kernel : ∀ t : Fin grid0.N, _)

theorem lt0 (t : Fin cfg0.N) : t.val < 25 := t.isLt.trans_eq N_0

theorem blk0_0 (j : Fin 10000) (d : Fin 128) : Pass1.iblk V c 0 t (ix2 j d) = V c main_arg0 (ix2 j d) := by
  blk_simp [Pass1.iblk, ix0_0]
  refine congrArg (V c main_arg0) ?_
  blk_ext [ix0_0]
theorem blk0_1 (j : Fin 128) (d : Fin 16) : Pass1.iblk V c 1 t (ix2 j d) = V c main_arg2 (ix2 j d) := by
  blk_simp [Pass1.iblk, ix0_1]
  refine congrArg (V c main_arg2) ?_
  blk_ext [ix0_1]
theorem blk0_2 (j : Fin 1) (d : Fin 16) : Pass1.iblk V c 2 t (ix2 j d) = V c main_v0 (ix2 j d) := by
  blk_simp [Pass1.iblk, ix0_2]
  refine congrArg (V c main_v0) ?_
  blk_ext [ix0_2]
theorem blk0_3 (j : Fin 16) (d : Fin 16) : Pass1.iblk V c 3 t (ix2 j d) = V c main_arg4 (ix2 j d) := by
  blk_simp [Pass1.iblk, ix0_3]
  refine congrArg (V c main_arg4) ?_
  blk_ext [ix0_3]
theorem blk0_4 (r : Fin 400) (i : Fin 10000) :
    Pass1.iblk V c 4 t (ix2 r i) = V c main_arg1 (ix2 (⟨400 * t.val + r.val, by have := lt0 t; omega⟩ : Fin 10000) i) := by
  blk_simp [Pass1.iblk, ix0_4]
  refine congrArg (V c main_arg1) ?_
  blk_ext [ix0_4]

/-- The array of second-layer inputs the first kernel leaves. -/
theorem s2_array (b1 : FVec Ideal S16 .f32) (hb : ∀ l : Fin 16, V c main_v0 (ix2 (0 : Fin 1) l) = b1 (ix1 l)) :
    (Pass1.dat V c).arrAt 5 cfg0.N = refS2 (V c main_arg0) (V c main_arg1) (V c main_arg2) b1 (V c main_arg4) := by
  refine (Pass1.dat V c).arrAt_eq_of_covers 5 _ (by decide +kernel) fun t _ y => ?_
  blk_simp
  rw [Pass1.after_5]
  obtain ⟨r, k, rfl⟩ : ∃ (r : Fin 400) (k : Fin 16), y = ix2 r k := ⟨y 0, y 1, by funext a; fin_cases a <;> rfl⟩
  have e : ((cfg0.win 5).blk t).view.emb (ix2 r k) = ix2 (⟨400 * t.val + r.val, by have := lt0 t; omega⟩ : Fin 10000) k := by
    blk_ext [ix0_5]
  refine Eq.trans ?_ (congrArg _ e).symm
  rw [Ref.refS2_at, Pay.pay2_at]
  unfold Pass1.scr Ref.s2At
  simp only [blk0_2, blk0_3, blk0_4, Pay.pay1_at, blk0_0, blk0_1, hb]

/-- An adjacency code's place among the slabs: row `i` is row `i % 400` of slab `i / 400`. -/
def codes (adj : FVec Ideal S10000x10000 .f32) : IVec S25x400x10000 8 := fun y =>
  codeAt (adj (ix2 (⟨400 * (y 0).val + (y 1).val, by
    have h0 : (y 0).val < 25 := (y 0).isLt
    have h1 : (y 1).val < 400 := (y 1).isLt
    omega⟩ : Fin 10000) (y 2)))

/-- The array of codes the first kernel leaves. -/
theorem adj8_array : (Pass1.dat V c).arrAt 6 cfg0.N = codes (V c main_arg1) := by
  refine (Pass1.dat V c).arrAt_eq_of_covers 6 _ (by decide +kernel) fun t _ y => ?_
  blk_simp
  rw [Pass1.after_6]
  obtain ⟨z, r, k, rfl⟩ : ∃ (z : Fin 1) (r : Fin 400) (k : Fin 10000), y = ix3 z r k := ⟨y 0, y 1, y 2, by funext a; fin_cases a <;> rfl⟩
  have e : ((cfg0.win 6).blk t).view.emb (ix3 z r k) = ix3 (⟨t.val, lt0 t⟩ : Fin 25) r k := by
    obtain rfl : z = 0 := Subsingleton.elim _ _
    blk_ext [ix0_6]
  refine Eq.trans ?_ (congrArg _ e).symm
  rw [Pay.pay3_at, blk0_4]
  rfl
end

/-! ### The second kernel -/

section
variable (V : (c : Dev nD) → (b : Ref sig .tc) → Buf (Elt Ideal) ((c : Thread nD τ).loc b)) (c : Dev nD) (t : Fin cfg1.N)

theorem ix1_0 : ∀ t : Fin cfg1.N, win1_0.index t = ![t.val, 0, 0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![0, 0] := (by decide +kernel : ∀ t : Fin grid1.N, _)
theorem ix1_3 : ∀ t : Fin cfg1.N, win1_3.index t = ![t.val, 0] := (by decide +kernel : ∀ t : Fin grid1.N, _)

theorem lt1 (t : Fin cfg1.N) : t.val < 5 := t.isLt.trans_eq N_1

theorem blk1_0 (p : Fin 5) (r : Fin 400) (j : Fin 10000) :
    Pass2.iblk V c 0 t (ix3 p r j) = V c main_v2_1 (ix3 (⟨5 * t.val + p.val, by have := lt1 t; omega⟩ : Fin 25) r j) := by
  blk_simp [Pass2.iblk, ix1_0]
  refine congrArg (V c main_v2_1) ?_
  blk_ext [ix1_0]
theorem blk1_1 : Pass2.iblk V c 1 t = V c main_v2_0 := by
  funext y
  blk_simp [Pass2.iblk, ix1_1]
  refine congrArg (V c main_v2_0) ?_
  blk_ext [ix1_1]
theorem blk1_2 (j : Fin 1) (d : Fin 16) : Pass2.iblk V c 2 t (ix2 j d) = V c main_v1 (ix2 j d) := by
  blk_simp [Pass2.iblk, ix1_2]
  refine congrArg (V c main_v1) ?_
  blk_ext [ix1_2]

/-- The result array the second kernel leaves. -/
theorem out_array (adj : FVec Ideal S10000x10000 .f32) (s : FVec Ideal S10000x16 .f32) (b2 : FVec Ideal S16 .f32)
    (h8 : V c main_v2_1 = codes adj) (hs : V c main_v2_0 = s) (hb : ∀ k : Fin 16, V c main_v1 (ix2 (0 : Fin 1) k) = b2 (ix1 k))
    (hpre : ∀ (i : Fin 10000) (q : Fin 32), Cert.Pre_sums_exact.fn_part1 (F := Ideal) s (Ref.refCode adj) (Ref.refScale s) (ix2 i q) = 1) :
    (Pass2.dat V c).arrAt 3 cfg1.N = Ref.refOut adj s b2 := by
  refine (Pass2.dat V c).arrAt_eq_of_covers 3 _ (by decide +kernel) fun t _ y => ?_
  blk_simp
  rw [Pass2.after_3]
  obtain ⟨r, k, rfl⟩ : ∃ (r : Fin 2000) (k : Fin 16), y = ix2 r k := ⟨y 0, y 1, by funext a; fin_cases a <;> rfl⟩
  obtain ⟨p, u, rfl⟩ : ∃ (p : Fin 5) (u : Fin 400), r = (⟨400 * p.val + u.val, by omega⟩ : Fin 2000) :=
    ⟨⟨r.val / 400, by omega⟩, ⟨r.val % 400, by omega⟩, by ext; simp only; omega⟩
  have e : ((cfg1.win 3).blk t).view.emb (ix2 (⟨400 * p.val + u.val, by omega⟩ : Fin 2000) k)
      = ix2 (⟨2000 * t.val + (400 * p.val + u.val), by have := lt1 t; omega⟩ : Fin 10000) k := by
    blk_ext [ix1_3]
  refine Eq.trans ?_ (congrArg _ e).symm
  rw [Ref.refOut_at]
  unfold Pass2.scrW Pass2.scrA Pass2.scrB
  rw [blk1_1, hs]
  refine Entry.out_entry adj s b2 _ _ p u _ k (fun j => ?_) ?_ (hpre _)
  · rw [blk1_0, h8]
    refine congrArg codeAt (congrArg adj ?_)
    refine congrArg (fun i => ix2 i j) (Fin.ext ?_)
    show 400 * (5 * t.val + p.val) + u.val = 2000 * t.val + (400 * p.val + u.val)
    omega
  · rw [blk1_2, hb]
end

end Cert.Proof.Whole

end
-- ==== Proof.lean ====
/- The certificate: the frames, the two programs' one text, and the value claim — under the bound on the products' sums, the kernel's
   result over the extended reals is the reference's, the arguments being the same. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Arrays
public import Idealize.ShloMosaic.Adequacy
public import Idealize.ShloMosaic.Init

@[expose] public section

set_option maxRecDepth 16384

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ)

/-- The first bias as the first kernel's row. -/
theorem bias1 (c : Dev nD) (l : Fin 16) : Whole.E1 m c main_v0 (ix2 (0 : Fin 1) l) = m ((c : Thread nD τ).loc main_arg3) (ix1 l) := by
  unfold Whole.E1 V1
  after_results_simp
  pointwise
/-- The second bias as the second kernel's row. -/
theorem bias2 (c : Dev nD) (l : Fin 16) : Whole.E2 m c main_v1 (ix2 (0 : Fin 1) l) = m ((c : Thread nD τ).loc main_arg5) (ix1 l) := by
  show Whole.W2 m c main_v1 _ = _
  rw [Whole.W2_of m c main_v1 (by decide) (by decide)]
  unfold V1
  after_results_simp
  pointwise

/-- What the second kernel leaves, from the arguments: the reference's formula. -/
theorem result_eq (hpre : Cert.Pre_KernelIdeal_sums_exact m) (c : Dev nD) : (Pass2.dat (Whole.E2 m) c).arrAt 3 cfg1.N
    = Ref.refOut (m ((c.tc : Thread nD τ).loc main_arg1)) (Ref.refS2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg5)) := by
  have a0 : Whole.E1 m c main_arg0 = m ((c : Thread nD τ).loc main_arg0) := V1_of m c main_arg0 (by decide)
  have a1 : Whole.E1 m c main_arg1 = m ((c : Thread nD τ).loc main_arg1) := V1_of m c main_arg1 (by decide)
  have a2 : Whole.E1 m c main_arg2 = m ((c : Thread nD τ).loc main_arg2) := V1_of m c main_arg2 (by decide)
  have a4 : Whole.E1 m c main_arg4 = m ((c : Thread nD τ).loc main_arg4) := V1_of m c main_arg4 (by decide)
  refine Whole.out_array (Whole.E2 m) c _ _ _ ?_ ?_ (bias2 m c) fun i q => ?_
  · refine (Whole.W2_adj8 m c).trans ?_
    rw [Whole.adj8_array, a1]
  · refine (Whole.W2_s2 m c).trans ?_
    rw [Whole.s2_array (Whole.E1 m) c _ (bias1 m c), a0, a1, a2, a4]
  · have h := hpre c
    rw [Ref.pre_eq] at h
    exact congrFun h (ix2 i q)

theorem algebraic : Cert.algebraic_KernelIdeal_ReferenceIdeal_pre_sums_exact := by
  intro m g m' g' hpre hagree
  refine ⟨fun c => (Pass2.dat (Whole.E2 m) c).arrAt 3 cfg1.N,
    (θ_run Cert.KernelIdeal.defs _ _).mono (fun _ h c => h.1 c) (run_kernel (F := Ideal) m g),
    (θ_run Cert.ReferenceIdeal.defs _ _).mono (fun _ h c => ⟨(h c).1.trans ?_, (h c).2⟩) (Cert.ReferenceIdeal.Value.run (F := Ideal) m' g')⟩
  obtain ⟨h0, h1, h2, h3, h4, h5⟩ := hagree c
  rw [Ref.res_eq, h0, h1, h2, h3, h4, h5]
  exact (result_eq m hpre c).symm

theorem claim : Cert.Claim := ⟨Cert.Kernel.Gen.facts, Cert.KernelIdeal.Gen.facts, Cert.ReferenceIdeal.Gen.facts, preFacts,
  frame_kernel, frame_ideal, frame_ideal_pre, frame_reference, frame_reference_pre, trivial, algebraic⟩

end Cert.Proof

end
